-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Pack (m : (ℓ : Loc Cert.Pack.nD Cert.Pack.τ Cert.Pack.sig) → Buf (Elt Bits) ℓ) : Prop :=
  True

def Pre_PackReference (m : (ℓ : Loc Cert.PackReference.nD Cert.PackReference.τ Cert.PackReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Pack_PackReference [hPack : Cert.Pack.Facts] [hPackReference : Cert.PackReference.Facts] : Prop :=
  ∀ (m : (ℓ : Loc Cert.Pack.nD Cert.Pack.τ Cert.Pack.sig) → Buf (Elt Bits) ℓ) (g : Dev Cert.Pack.nD → PrngReg)
    (m' : (ℓ : Loc Cert.PackReference.nD Cert.PackReference.τ Cert.PackReference.sig) → Buf (Elt Bits) ℓ) (g' : Dev Cert.PackReference.nD → PrngReg), Pre_Pack m →
    (∀ c : Dev Cert.Pack.nD,
      m' ((c.tc : Thread Cert.PackReference.nD Cert.PackReference.τ).loc Cert.PackReference.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v0)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v0) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v3) = v0 c
          ∧ r.2.mem ((c.tc : Thread Cert.PackReference.nD Cert.PackReference.τ).loc Cert.PackReference.main_arg0) = m' ((c.tc : Thread Cert.PackReference.nD Cert.PackReference.τ).loc Cert.PackReference.main_arg0))

def Claim : Prop :=
  ∃ (hKernel : Cert.Kernel.Facts) (hKernelIdeal : Cert.KernelIdeal.Facts) (hReferenceIdeal : Cert.ReferenceIdeal.Facts) (hPack : Cert.Pack.Facts) (hPackReference : Cert.PackReference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Pack (hPack := hPack)
    ∧ quiescent_PackReference (hPackReference := hPackReference)
    ∧ preserves_Kernel_KernelIdeal
    ∧ algebraic_KernelIdeal_ReferenceIdeal_pre_finite (hKernelIdeal := hKernelIdeal) (hReferenceIdeal := hReferenceIdeal) (hPre_finite := hPre_finite)
    ∧ bitexact_Pack_PackReference (hPack := hPack) (hPackReference := hPackReference)
-- ==== Pre_finite.lean ====
abbrev S3x640x3584 : Shape := ⟨3, ![3, 640, 3584]⟩
abbrev S1792x18944 : Shape := ⟨2, ![1792, 18944]⟩
abbrev S28x18944 : Shape := ⟨2, ![28, 18944]⟩
abbrev S148x1792x128 : Shape := ⟨3, ![148, 1792, 128]⟩
abbrev S3584x64 : Shape := ⟨2, ![3584, 64]⟩
abbrev S64x18944 : Shape := ⟨2, ![64, 18944]⟩
abbrev S_ : Shape := ⟨0, ![]⟩

class Facts : Prop where
  bcast_S_S3x640x3584 : S_.BroadcastsInDim S3x640x3584 (![] : Fin 0 → Fin S3x640x3584.rank)
  reducesTo_S3x640x3584_S_d0_1_2 : S3x640x3584.ReducesTo [0, 1, 2] S_
  h_S_ : 0 < S_.numel
  bcast_S_S28x18944 : S_.BroadcastsInDim S28x18944 (![] : Fin 0 → Fin S28x18944.rank)
  reducesTo_S28x18944_S_d0_1 : S28x18944.ReducesTo [0, 1] S_

variable [Facts]

def fn {F : FTy → Type} [FloatOps F] (main_arg0 : FVec F S3x640x3584 .bf16) (main_arg1 : IVec S1792x18944 8) (main_arg2 : FVec F S28x18944 .f32) (main_arg3 : IVec S28x18944 8) (main_arg4 : IVec S148x1792x128 32) (main_arg5 : FVec F S3584x64 .bf16) (main_arg6 : FVec F S64x18944 .bf16) : IVec S_ 1 :=
  let main_v0 : FVec F S3x640x3584 .bf16 := Host.absf main_arg0
  let main_cst : FVec F S_ .bf16 := constant S_ .bf16 0x7F80#16
  let main_v1 : FVec F S3x640x3584 .bf16 := broadcastInDim S3x640x3584 ![] bcast_S_S3x640x3584 main_cst
  let main_v2 : IVec S3x640x3584 1 := cmpf .olt main_v0 main_v1
  let main_c : IVec S_ 1 := constantI S_ 1 1#1
  let main_v3 : IVec S_ 1 := (fun x v => Host.reduce IntOp.andi x v reducesTo_S3x640x3584_S_d0_1_2 h_S_) main_v2 main_c
  let main_v4 : FVec F S28x18944 .f32 := Host.absf main_arg2
  let main_cst_0 : FVec F S_ .f32 := constant S_ .f32 0x7F800000#32
  let main_v5 : FVec F S28x18944 .f32 := broadcastInDim S28x18944 ![] bcast_S_S28x18944 main_cst_0
  let main_v6 : IVec S28x18944 1 := cmpf .olt main_v4 main_v5
  let main_c_1 : IVec S_ 1 := constantI S_ 1 1#1
  let main_v7 : IVec S_ 1 := (fun x v => Host.reduce IntOp.andi x v reducesTo_S28x18944_S_d0_1 h_S_) main_v6 main_c_1
  let main_v8 : IVec S_ 1 := andi main_v3 main_v7
  main_v8
-- ==== Kernel.lean ====
abbrev S3x640x3584 : Shape := ⟨3, ![3, 640, 3584]⟩
abbrev S1792x18944 : Shape := ⟨2, ![1792, 18944]⟩
abbrev S28x18944 : Shape := ⟨2, ![28, 18944]⟩
abbrev S148x1792x128 : Shape := ⟨3, ![148, 1792, 128]⟩
abbrev S3584x64 : Shape := ⟨2, ![3584, 64]⟩
abbrev S64x18944 : Shape := ⟨2, ![64, 18944]⟩
abbrev S1920x3584 : Shape := ⟨2, ![1920, 3584]⟩
abbrev S64x3584 : Shape := ⟨2, ![64, 3584]⟩
abbrev S1920x3840 : Shape := ⟨2, ![1920, 3840]⟩
abbrev S384x3584 : Shape := ⟨2, ![384, 3584]⟩
abbrev S384x3840 : Shape := ⟨2, ![384, 3840]⟩
abbrev S384x64 : Shape := ⟨2, ![384, 64]⟩
abbrev S384x256 : Shape := ⟨2, ![384, 256]⟩
abbrev S1920x18944 : Shape := ⟨2, ![1920, 18944]⟩
abbrev S1792x512 : Shape := ⟨2, ![1792, 512]⟩
abbrev S28x512 : Shape := ⟨2, ![28, 512]⟩
abbrev S4x1792x128 : Shape := ⟨3, ![4, 1792, 128]⟩
abbrev S64x512 : Shape := ⟨2, ![64, 512]⟩
abbrev S1920x512 : Shape := ⟨2, ![1920, 512]⟩
abbrev S3840x512 : Shape := ⟨2, ![3840, 512]⟩
abbrev S1x512 : Shape := ⟨2, ![1, 512]⟩
abbrev S64x128 : Shape := ⟨2, ![64, 128]⟩
abbrev S128x128 : Shape := ⟨2, ![128, 128]⟩
abbrev S1x128 : Shape := ⟨2, ![1, 128]⟩
abbrev S1x64x128 : Shape := ⟨3, ![1, 64, 128]⟩
abbrev S256x512 : Shape := ⟨2, ![256, 512]⟩

abbrev nBuf : Space → Nat
  | .hbm => 11
  | .vmem => 19
  | .smem => 0
  | _ => 0

abbrev bufTy : (tb : Table) → Fin (tcTables nBuf tb) → BufTy
  | .hbm, ⟨0, _⟩ => ⟨S3x640x3584, .bf16⟩
  | .hbm, ⟨1, _⟩ => ⟨S1792x18944, .i8⟩
  | .hbm, ⟨2, _⟩ => ⟨S28x18944, .f32⟩
  | .hbm, ⟨3, _⟩ => ⟨S28x18944, .i8⟩
  | .hbm, ⟨4, _⟩ => ⟨S148x1792x128, .i32⟩
  | .hbm, ⟨5, _⟩ => ⟨S3584x64, .bf16⟩
  | .hbm, ⟨6, _⟩ => ⟨S64x18944, .bf16⟩
  | .hbm, ⟨7, _⟩ => ⟨S1920x3584, .bf16⟩
  | .hbm, ⟨8, _⟩ => ⟨S64x3584, .bf16⟩
  | .hbm, ⟨9, _⟩ => ⟨S1920x3840, .bf16⟩
  | .hbm, ⟨10, _⟩ => ⟨S1920x18944, .bf16⟩
  | .local _ .vmem, ⟨0, _⟩ => ⟨S384x3584, .bf16⟩
  | .local _ .vmem, ⟨1, _⟩ => ⟨S384x3584, .bf16⟩
  | .local _ .vmem, ⟨2, _⟩ => ⟨S64x3584, .bf16⟩
  | .local _ .vmem, ⟨3, _⟩ => ⟨S384x3840, .bf16⟩
  | .local _ .vmem, ⟨4, _⟩ => ⟨S384x3840, .bf16⟩
  | .local _ .vmem, ⟨5, _⟩ => ⟨S1920x3840, .bf16⟩
  | .local _ .vmem, ⟨6, _⟩ => ⟨S1792x512, .i8⟩
  | .local _ .vmem, ⟨7, _⟩ => ⟨S1792x512, .i8⟩
  | .local _ .vmem, ⟨8, _⟩ => ⟨S28x512, .f32⟩
  | .local _ .vmem, ⟨9, _⟩ => ⟨S28x512, .f32⟩
  | .local _ .vmem, ⟨10, _⟩ => ⟨S28x512, .i8⟩
  | .local _ .vmem, ⟨11, _⟩ => ⟨S28x512, .i8⟩
  | .local _ .vmem, ⟨12, _⟩ => ⟨S4x1792x128, .i32⟩
  | .local _ .vmem, ⟨13, _⟩ => ⟨S4x1792x128, .i32⟩
  | .local _ .vmem, ⟨14, _⟩ => ⟨S64x512, .bf16⟩
  | .local _ .vmem, ⟨15, _⟩ => ⟨S64x512, .bf16⟩
  | .local _ .vmem, ⟨16, _⟩ => ⟨S1920x512, .bf16⟩
  | .local _ .vmem, ⟨17, _⟩ => ⟨S1920x512, .bf16⟩
  | .local _ .vmem, ⟨18, _⟩ => ⟨S3840x512, .bf16⟩
  | _, _ => ⟨S3x640x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x3840 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1920x3840 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1792x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S28x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S28x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x1792x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1920x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S3x640x3584 : Shape := ⟨3, ![3, 640, 3584]⟩
abbrev S1792x18944 : Shape := ⟨2, ![1792, 18944]⟩
abbrev S28x18944 : Shape := ⟨2, ![28, 18944]⟩
abbrev S148x1792x128 : Shape := ⟨3, ![148, 1792, 128]⟩
abbrev S3584x64 : Shape := ⟨2, ![3584, 64]⟩
abbrev S64x18944 : Shape := ⟨2, ![64, 18944]⟩
abbrev S_ : Shape := ⟨0, ![]⟩
abbrev S28x64x18944 : Shape := ⟨3, ![28, 64, 18944]⟩
abbrev S28x1x18944 : Shape := ⟨3, ![28, 1, 18944]⟩
abbrev S3x640x1792 : Shape := ⟨3, ![3, 640, 1792]⟩
abbrev S3x640x18944 : Shape := ⟨3, ![3, 640, 18944]⟩
abbrev S1792x148x128 : Shape := ⟨3, ![1792, 148, 128]⟩
abbrev S1792x1x18944 : Shape := ⟨3, ![1792, 1, 18944]⟩
abbrev S1792x2x18944 : Shape := ⟨3, ![1792, 2, 18944]⟩
abbrev S3584x18944 : Shape := ⟨2, ![3584, 18944]⟩
abbrev S3x640x64 : Shape := ⟨3, ![3, 640, 64]⟩
abbrev S1920x18944 : Shape := ⟨2, ![1920, 18944]⟩

abbrev nBuf : Space → Nat
  | .hbm => 67
  | .vmem => 0
  | .smem => 0
  | _ => 0

abbrev bufTy : (tb : Table) → Fin (tcTables nBuf tb) → BufTy
  | .hbm, ⟨0, _⟩ => ⟨S3x640x3584, .bf16⟩
  | .hbm, ⟨1, _⟩ => ⟨S1792x18944, .i8⟩
  | .hbm, ⟨2, _⟩ => ⟨S28x18944, .f32⟩
  | .hbm, ⟨3, _⟩ => ⟨S28x18944, .i8⟩
  | .hbm, ⟨4, _⟩ => ⟨S148x1792x128, .i32⟩
  | .hbm, ⟨5, _⟩ => ⟨S3584x64, .bf16⟩
  | .hbm, ⟨6, _⟩ => ⟨S64x18944, .bf16⟩
  | .hbm, ⟨7, _⟩ => ⟨S1792x18944, .i32⟩
  | .hbm, ⟨8, _⟩ => ⟨S_, .i32⟩
  | .hbm, ⟨9, _⟩ => ⟨S1792x18944, .i32⟩
  | .hbm, ⟨10, _⟩ => ⟨S1792x18944, .i32⟩
  | .hbm, ⟨11, _⟩ => ⟨S_, .i32⟩
  | .hbm, ⟨12, _⟩ => ⟨S1792x18944, .i32⟩
  | .hbm, ⟨13, _⟩ => ⟨S1792x18944, .i32⟩
  | .hbm, ⟨14, _⟩ => ⟨S28x18944, .bf16⟩
  | .hbm, ⟨15, _⟩ => ⟨S28x18944, .i32⟩
  | .hbm, ⟨16, _⟩ => ⟨S28x18944, .bf16⟩
  | .hbm, ⟨17, _⟩ => ⟨S1792x18944, .bf16⟩
  | .hbm, ⟨18, _⟩ => ⟨S28x64x18944, .bf16⟩
  | .hbm, ⟨19, _⟩ => ⟨S28x1x18944, .bf16⟩
  | .hbm, ⟨20, _⟩ => ⟨S28x64x18944, .bf16⟩
  | .hbm, ⟨21, _⟩ => ⟨S28x64x18944, .bf16⟩
  | .hbm, ⟨22, _⟩ => ⟨S28x1x18944, .bf16⟩
  | .hbm, ⟨23, _⟩ => ⟨S28x64x18944, .bf16⟩
  | .hbm, ⟨24, _⟩ => ⟨S28x64x18944, .bf16⟩
  | .hbm, ⟨25, _⟩ => ⟨S1792x18944, .bf16⟩
  | .hbm, ⟨26, _⟩ => ⟨S1792x18944, .bf16⟩
  | .hbm, ⟨27, _⟩ => ⟨S28x64x18944, .bf16⟩
  | .hbm, ⟨28, _⟩ => ⟨S28x1x18944, .bf16⟩
  | .hbm, ⟨29, _⟩ => ⟨S28x64x18944, .bf16⟩
  | .hbm, ⟨30, _⟩ => ⟨S28x64x18944, .bf16⟩
  | .hbm, ⟨31, _⟩ => ⟨S28x1x18944, .bf16⟩
  | .hbm, ⟨32, _⟩ => ⟨S28x64x18944, .bf16⟩
  | .hbm, ⟨33, _⟩ => ⟨S28x64x18944, .bf16⟩
  | .hbm, ⟨34, _⟩ => ⟨S1792x18944, .bf16⟩
  | .hbm, ⟨35, _⟩ => ⟨S3x640x1792, .bf16⟩
  | .hbm, ⟨36, _⟩ => ⟨S3x640x18944, .f32⟩
  | .hbm, ⟨37, _⟩ => ⟨S3x640x1792, .bf16⟩
  | .hbm, ⟨38, _⟩ => ⟨S3x640x18944, .f32⟩
  | .hbm, ⟨39, _⟩ => ⟨S3x640x18944, .f32⟩
  | .hbm, ⟨40, _⟩ => ⟨S1792x148x128, .i32⟩
  | .hbm, ⟨41, _⟩ => ⟨S1792x18944, .i32⟩
  | .hbm, ⟨42, _⟩ => ⟨S_, .i32⟩
  | .hbm, ⟨43, _⟩ => ⟨S1792x18944, .i32⟩
  | .hbm, ⟨44, _⟩ => ⟨S1792x18944, .i32⟩
  | .hbm, ⟨45, _⟩ => ⟨S1792x18944, .f32⟩
  | .hbm, ⟨46, _⟩ => ⟨S1792x18944, .bf16⟩
  | .hbm, ⟨47, _⟩ => ⟨S_, .i32⟩
  | .hbm, ⟨48, _⟩ => ⟨S1792x18944, .i32⟩
  | .hbm, ⟨49, _⟩ => ⟨S1792x18944, .i32⟩
  | .hbm, ⟨50, _⟩ => ⟨S1792x18944, .f32⟩
  | .hbm, ⟨51, _⟩ => ⟨S1792x18944, .bf16⟩
  | .hbm, ⟨52, _⟩ => ⟨S1792x1x18944, .bf16⟩
  | .hbm, ⟨53, _⟩ => ⟨S1792x1x18944, .bf16⟩
  | .hbm, ⟨54, _⟩ => ⟨S1792x2x18944, .bf16⟩
  | .hbm, ⟨55, _⟩ => ⟨S3584x18944, .bf16⟩
  | .hbm, ⟨56, _⟩ => ⟨S3x640x18944, .f32⟩
  | .hbm, ⟨57, _⟩ => ⟨S3x640x64, .f32⟩
  | .hbm, ⟨58, _⟩ => ⟨S3x640x64, .bf16⟩
  | .hbm, ⟨59, _⟩ => ⟨S3x640x18944, .f32⟩
  | .hbm, ⟨60, _⟩ => ⟨S3x640x18944, .f32⟩
  | .hbm, ⟨61, _⟩ => ⟨S_, .f32⟩
  | .hbm, ⟨62, _⟩ => ⟨S3x640x18944, .f32⟩
  | .hbm, ⟨63, _⟩ => ⟨S3x640x18944, .f32⟩
  | .hbm, ⟨64, _⟩ => ⟨S3x640x18944, .f32⟩
  | .hbm, ⟨65, _⟩ => ⟨S3x640x18944, .bf16⟩
  | .hbm, ⟨66, _⟩ => ⟨S1920x18944, .bf16⟩
  | _, _ => ⟨S3x640x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Pack.lean ====
abbrev S112x18944 : Shape := ⟨2, ![112, 18944]⟩
abbrev S7x8x18944 : Shape := ⟨3, ![7, 8, 18944]⟩
abbrev S112x4736 : Shape := ⟨2, ![112, 4736]⟩
abbrev S7x8x4736 : Shape := ⟨3, ![7, 8, 4736]⟩
abbrev S16x4736 : Shape := ⟨2, ![16, 4736]⟩
abbrev S8x4736 : Shape := ⟨2, ![8, 4736]⟩
abbrev S1x8x4736 : Shape := ⟨3, ![1, 8, 4736]⟩

abbrev nBuf : Space → Nat
  | .hbm => 2
  | .vmem => 4
  | .smem => 0
  | _ => 0

abbrev bufTy : (tb : Table) → Fin (tcTables nBuf tb) → BufTy
  | .hbm, ⟨0, _⟩ => ⟨S112x18944, .bf16⟩
  | .hbm, ⟨1, _⟩ => ⟨S7x8x18944, .i32⟩
  | .local _ .vmem, ⟨0, _⟩ => ⟨S112x4736, .bf16⟩
  | .local _ .vmem, ⟨1, _⟩ => ⟨S112x4736, .bf16⟩
  | .local _ .vmem, ⟨2, _⟩ => ⟨S7x8x4736, .i32⟩
  | .local _ .vmem, ⟨3, _⟩ => ⟨S7x8x4736, .i32⟩
  | _, _ => ⟨S112x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S112x4736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x8x4736 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackReference.lean ====
abbrev S112x18944 : Shape := ⟨2, ![112, 18944]⟩
abbrev S56x2x18944 : Shape := ⟨3, ![56, 2, 18944]⟩
abbrev S56x18944x2 : Shape := ⟨3, ![56, 18944, 2]⟩
abbrev S56x18944 : Shape := ⟨2, ![56, 18944]⟩
abbrev S7x8x18944 : Shape := ⟨3, ![7, 8, 18944]⟩

abbrev nBuf : Space → Nat
  | .hbm => 5
  | .vmem => 0
  | .smem => 0
  | _ => 0

abbrev bufTy : (tb : Table) → Fin (tcTables nBuf tb) → BufTy
  | .hbm, ⟨0, _⟩ => ⟨S112x18944, .bf16⟩
  | .hbm, ⟨1, _⟩ => ⟨S56x2x18944, .bf16⟩
  | .hbm, ⟨2, _⟩ => ⟨S56x18944x2, .bf16⟩
  | .hbm, ⟨3, _⟩ => ⟨S56x18944, .i32⟩
  | .hbm, ⟨4, _⟩ => ⟨S7x8x18944, .i32⟩
  | _, _ => ⟨S112x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Proof.Chunk.lean ====
/- One 128x128 chunk of the weight matrix, as the matmul kernel builds it from the packed codes, the scale row, the zero
   row and the packed sparse words, and its value on the extended reals. -/
module

public import proofs.«01_k».proof.Proof.Gen.KernelIdeal.Skeleton
public import Idealize.ShloMosaic.Lib.Pipeline.ValueKit
public import Idealize.ShloMosaic.Lib.BitcastPair
public import Idealize.ShloMosaic.Lib.ValueIdx

@[expose] public section

set_option maxRecDepth 16384

noncomputable section

namespace Cert.KernelIdeal.Gen

open Idealize.ShloMosaic

/-- The four-bit code of parity `p` in a packed byte: the low half at `0`, the high half otherwise. -/
def nib (q : BitVec 8) (p : Nat) : Nat := if p = 0 then q.toNat % 16 else q.toNat / 16

/-- The half of parity `p` of a 32-bit word, read as a bf16 number. -/
def half (w : BitVec 32) (p : Nat) : EReal := Ideal.ofBits .bf16 (w.extractLsb' (16 * p) 16)

/-- One entry of the weight matrix: the dequantized code plus the sparse correction. -/
def entry (q z : BitVec 8) (sc : EReal) (w : BitVec 32) (p : Nat) : EReal :=
  (((nib q p : ℝ) - (z.toNat : ℝ) : ℝ) : EReal) * sc + half w p

theorem nib_lt (q : BitVec 8) (p : Nat) : nib q p < 16 := by
  have := q.isLt
  unfold nib; split <;> omega

/-- The kernel's word for a byte holds, in its two halves, the bit patterns `0x4300 + code`. -/
theorem word_halves (q : BitVec 8) (p : Nat) (hp : p < 2) :
    (((q.setWidth 32 ||| (q.setWidth 32 <<< 12)) &&& 983055#32) ||| 1124090624#32).extractLsb' (16 * p) 16
      = BitVec.ofNat 16 (0x4300 + nib q p) := by
  have key : ∀ (q : Fin 256) (p : Fin 2),
      ((((BitVec.ofFin (w := 8) q).setWidth 32 ||| ((BitVec.ofFin (w := 8) q).setWidth 32 <<< 12)) &&& 983055#32)
        ||| 1124090624#32).extractLsb' (16 * p.val) 16 = BitVec.ofNat 16 (0x4300 + nib (BitVec.ofFin (w := 8) q) p.val) := by
    decide +kernel
  exact key q.toFin ⟨p, hp⟩

/-- The bf16 pattern `0x4300 + n`, for `n < 16`, is the number `128 + n`. -/
theorem ofBits_code (n : Nat) (hn : n < 16) :
    Ideal.ofBits .bf16 (BitVec.ofNat 16 (0x4300 + n)) = ((128 + n : ℝ) : EReal) := by
  have h1 : (BitVec.ofNat 16 (0x4300 + n)).extractLsb' 7 8 = 134#8 := by
    have : ∀ n : Fin 16, (BitVec.ofNat 16 (0x4300 + n.val)).extractLsb' 7 8 = 134#8 := by decide
    exact this ⟨n, hn⟩
  have h2 : ((BitVec.ofNat 16 (0x4300 + n)).extractLsb' 0 7).toNat = n := by
    have : ∀ n : Fin 16, ((BitVec.ofNat 16 (0x4300 + n.val)).extractLsb' 0 7).toNat = n.val := by decide
    exact this ⟨n, hn⟩
  have h3 : (BitVec.ofNat 16 (0x4300 + n)).extractLsb' 15 1 = 0#1 := by
    have : ∀ n : Fin 16, (BitVec.ofNat 16 (0x4300 + n.val)).extractLsb' 15 1 = 0#1 := by decide
    exact this ⟨n, hn⟩
  show Ideal.ieee 8 7 _ = _
  unfold Ideal.ieee
  simp only [h1, h2, h3]
  norm_num

/-- The pattern `0x4300` is the number 128. -/
theorem ofBits_128 : Ideal.ofBits .bf16 0x4300#16 = ((128 : ℝ) : EReal) := by
  have := ofBits_code 0 (by decide)
  simpa using this

variable {F : FTy → Type} [FloatOps F]

/-- The kernel's chunk at lane offset `cs`: the codes widened, masked and read as bf16 pairs, the zero row subtracted,
    times the scale row, plus the sparse words read as bf16 pairs. -/
def chunk (cs : Nat) (hs : S1x512.Slices ![0, cs] S1x128) (v0 : Vec F S1x512 .f32) (v2 : Vec F S1x512 .i8)
    (v7 : Vec F S64x128 .i8) (v23 : Vec F S1x64x128 .i32) : FVec F S128x128 .bf16 :=
  have v8 : IVec S64x128 32 := extui 32 v7 natLt_8_32
  have v15 : IVec S64x128 32 := ori (andi (ori v8 (shli v8 (broadcast S64x128 12#32))) (broadcast S64x128 983055#32)) (broadcast S64x128 1124090624#32)
  have v16 : FVec F S128x128 .bf16 := bitcastToFloat .bf16 (bitcast S128x128 16 v15 bitcasts_S64x128_w32_S128x128_w16)
  have v18 : FVec F S128x128 .bf16 := broadcastTo S128x128 (extractStridedSlice S1x128 ![0, cs] (k1_pay6 v2) hs) broadcasts_S1x128_S128x128
  have v21 : FVec F S128x128 .bf16 := broadcastTo S128x128 (extractStridedSlice S1x128 ![0, cs] (k1_pay5 v0) hs) broadcasts_S1x128_S128x128
  have v25 : FVec F S128x128 .bf16 := bitcastToFloat .bf16 (bitcast S128x128 16 (shapeCast S64x128 v23 shapeCasts_S1x64x128_S64x128) bitcasts_S64x128_w32_S128x128_w16)
  shapeCast S128x128 (addf (mulf (subf v16 v18) v21) v25) shapeCasts_S128x128_S128x128

theorem chunk_eq_pay7 (v0 : Vec F S1x512 .f32) (v2 : Vec F S1x512 .i8) (v7 : Vec F S64x128 .i8) (v23 : Vec F S1x64x128 .i32) :
    k1_pay7 v0 v2 v7 v23 = chunk 0 slices_S1x512_o0_0_S1x128 v0 v2 v7 v23 := rfl

/-- Row `j 0` of a chunk reads row `j 0 / 2` of the words, the half of parity `j 0 % 2`. -/
theorem bitcast_pair_apply (x : IVec S64x128 32) (j : S128x128.Idx) (k : S64x128.Idx)
    (h0 : (k 0).val = (j 0).val / 2) (h1 : (k 1).val = (j 1).val) :
    bitcast S128x128 16 x bitcasts_S64x128_w32_S128x128_w16 j = (x k).extractLsb' (16 * ((j 0).val % 2)) 16 := by
  rw [bitcast_32_16]
  refine congrArg (fun q => BitVec.extractLsb' (16 * ((j 0).val % 2)) 16 (x q)) (funext fun a => ?_)
  apply Fin.ext
  match a with
  | ⟨0, _⟩ => rw [Shape.Bitcasts.srcIdx_row _ _ _ _ _ rfl]; exact h0.symm
  | ⟨1, _⟩ => rw [Shape.Bitcasts.srcIdx_other _ _ _ _ _ (show ¬ (1 + 2 = 2) by decide)]; exact h1.symm

/-- A chunk at row `j 0`, lane `j 1`: the entry of the byte and of the sparse word in row `j 0 / 2`, with the scale and the
    zero of lane `cs + j 1`. -/
theorem chunk_apply (cs : Nat) (hs : S1x512.Slices ![0, cs] S1x128) (v0 : Vec Ideal S1x512 .f32) (v2 : Vec Ideal S1x512 .i8)
    (v7 : Vec Ideal S64x128 .i8) (v23 : Vec Ideal S1x64x128 .i32) (j : S128x128.Idx)
    (k : S64x128.Idx) (h0 : (k 0).val = (j 0).val / 2) (h1 : (k 1).val = (j 1).val)
    (l : S1x512.Idx) (hl0 : (l 0).val = 0) (hl1 : (l 1).val = cs + (j 1).val)
    (w : S1x64x128.Idx) (hw0 : (w 0).val = 0) (hw1 : (w 1).val = (j 0).val / 2) (hw2 : (w 2).val = (j 1).val) :
    chunk (F := Ideal) cs hs v0 v2 v7 v23 j = entry (v7 k) (v2 l) (v0 l) (v23 w) ((j 0).val % 2) := by
  unfold chunk
  dsimp only
  rw [shapeCast_self]
  have row : ∀ (x : FVec Ideal S1x512 .bf16),
      broadcastTo S128x128 (extractStridedSlice S1x128 ![0, cs] x hs) broadcasts_S1x128_S128x128 j = x l := by
    intro x
    let r : S1x128.Idx := fun a => match a with | ⟨0, _⟩ => (0 : Fin 1) | ⟨1, _⟩ => j 1
    rw [broadcastTo_apply (extractStridedSlice S1x128 ![0, cs] x hs) broadcasts_S1x128_S128x128 j r
      (fun a => match a with | ⟨0, _⟩ => rfl | ⟨1, _⟩ => rfl)]
    refine extractStridedSlice_apply _ x hs _ l fun a => ?_
    match a with
    | ⟨0, _⟩ => simpa using hl0
    | ⟨1, _⟩ => exact hl1
  rw [addf_apply, mulf_apply, subf_apply, row, row]
  have hsw : shapeCast S64x128 v23 shapeCasts_S1x64x128_S64x128 k = v23 w := by
    refine shapeCast_apply _ _ _ _ ?_
    rw [Shape.rowMajor_val_two, Shape.rowMajor_val_three, hw0, hw1, hw2, h0, h1]
    simp
  have hq : bitcastToFloat (F := Ideal) .bf16 (bitcast S128x128 16 (ori (andi (ori (extui 32 v7 natLt_8_32) (shli (extui 32 v7 natLt_8_32)
      (broadcast S64x128 12#32))) (broadcast S64x128 983055#32)) (broadcast S64x128 1124090624#32)) bitcasts_S64x128_w32_S128x128_w16) j
      = ((128 + nib (v7 k) ((j 0).val % 2) : ℝ) : EReal) := by
    show Ideal.ofBits .bf16 (bitcast S128x128 16 _ bitcasts_S64x128_w32_S128x128_w16 j) = _
    rw [bitcast_pair_apply _ j k h0 h1, ← ofBits_code _ (nib_lt _ _), ← word_halves _ _ (Nat.mod_lt _ (by decide))]
    rfl
  have hb : bitcastToFloat (F := Ideal) .bf16 (bitcast S128x128 16 (shapeCast S64x128 v23 shapeCasts_S1x64x128_S64x128) bitcasts_S64x128_w32_S128x128_w16) j
      = half (v23 w) ((j 0).val % 2) := by
    show Ideal.ofBits .bf16 (bitcast S128x128 16 _ bitcasts_S64x128_w32_S128x128_w16 j) = _
    rw [bitcast_pair_apply _ j k h0 h1, hsw]
    rfl
  have hz : k1_pay6 (F := Ideal) v2 l = (((v2 l).toNat + 128 : ℝ) : EReal) := by
    show ((((v2 l).setWidth 32).toInt : ℝ) : EReal) + Ideal.ofBits .bf16 0x4300#16 = _
    rw [ofBits_128]
    have : ((v2 l).setWidth 32).toInt = ((v2 l).toNat : Int) := by
      have := (v2 l).isLt
      rw [BitVec.toInt_eq_toNat_of_lt] <;> simp <;> omega
    rw [this]
    norm_cast
  rw [hq, hb, hz]
  show (_ - _) * (v0 l) + _ = _
  unfold entry
  congr 2
  rw [← EReal.coe_sub]
  congr 1
  ring

end Cert.KernelIdeal.Gen
-- ==== Proof.Weights.lean ====
/- The weight matrix that one grid point of the matmul kernel builds in its scratch array: 28 x 4 chunks of dequantized codes
   plus sparse corrections, 64 rows of the scaled second low-rank factor, and 192 zero rows. -/
module

public import proofs.«01_k».proof.Proof.Gen.KernelIdeal.Frame
public import proofs.«01_k».proof.Proof.Chunk
public import Idealize.ShloMosaic.Lib.Pointwise.Index
public import Idealize.ShloMosaic.Lib.IdealHost

@[expose] public section

set_option maxRecDepth 65536

noncomputable section

namespace Cert.KernelIdeal.Gen

open Idealize.ShloMosaic Idealize.ShloMosaic.Tactic

variable {F : FTy → Type} [FloatOps F]

theorem slices_chunk (c : Nat) (hc : c < 4) : S1x512.Slices ![0, 128 * c] S1x128 :=
  ⟨rfl, fun a => match a with | ⟨0, _⟩ => Nat.le_refl 1 | ⟨1, _⟩ => (by show 128 * c + 128 ≤ 512; omega)⟩

/-- The chunk of group `g` and lane block `c` of the weight matrix, computed from the loads of the four input blocks. -/
def chunkPiece (arg2 : Memref sig .tc .vmem S1792x512 .i8) (harg2 : arg2.IsWhole) (arg3 : Memref sig .tc .vmem S28x512 .f32) (harg3 : arg3.IsWhole)
    (arg4 : Memref sig .tc .vmem S28x512 .i8) (harg4 : arg4.IsWhole) (arg5 : Memref sig .tc .vmem S4x1792x128 .i32) (harg5 : arg5.IsWhole)
    (x1 : Vec F S1792x512 .i8) (x2 : Vec F S28x512 .f32) (x3 : Vec F S28x512 .i8) (x4 : Vec F S4x1792x128 .i32)
    (g c : Nat) (hg : g < 28) (hc : c < 4) : S128x128.Idx → Elt F .bf16 :=
  chunk (128 * c) (slices_chunk c hc)
    (View.readAt (Elt F) arg3.view (Rect.unit (s := S28x512) ![g, 0] S1x512.size
      (fun a => match a with | ⟨0, _⟩ => hg | ⟨1, _⟩ => Nat.le_refl 512)).toLoadRect (harg3.unread x2))
    (View.readAt (Elt F) arg4.view (Rect.unit (s := S28x512) ![g, 0] S1x512.size
      (fun a => match a with | ⟨0, _⟩ => hg | ⟨1, _⟩ => Nat.le_refl 512)).toLoadRect (harg4.unread x3))
    (View.readAt (Elt F) arg2.view (Rect.unit (s := S1792x512) ![64 * g, 128 * c] S64x128.size
      (fun a => match a with | ⟨0, _⟩ => (by show 64 * g + 64 ≤ 1792; omega) | ⟨1, _⟩ => (by show 128 * c + 128 ≤ 512; omega))).toLoadRect (harg2.unread x1))
    (View.readAt (Elt F) arg5.view (Rect.unit (s := S4x1792x128) ![c, 64 * g, 0] S1x64x128.size
      (fun a => match a with | ⟨0, _⟩ => hc | ⟨1, _⟩ => (by show 64 * g + 64 ≤ 1792; omega) | ⟨2, _⟩ => Nat.le_refl 128)).toLoadRect (harg5.unread x4))

theorem inb_chunk (n : Nat) (hn : n < 112) : ∀ a, ![128 * (n / 4), 128 * (n % 4)] a + S128x128.size a ≤ S3840x512.size a :=
  fun a => match a with
    | ⟨0, _⟩ => (by show 128 * (n / 4) + 128 ≤ 3840; omega)
    | ⟨1, _⟩ => (by show 128 * (n % 4) + 128 ≤ 512; omega)

/-- The stores of one grid point into the scratch array, last first: the scaled low-rank rows, the zero rows, and the 112
    chunks from the last to the first. -/
theorem stores_eq (c : Dev nD) (arg2 : Memref sig .tc .vmem S1792x512 .i8) (harg2 : arg2.IsWhole) (arg3 : Memref sig .tc .vmem S28x512 .f32) (harg3 : arg3.IsWhole)
    (arg4 : Memref sig .tc .vmem S28x512 .i8) (harg4 : arg4.IsWhole) (arg5 : Memref sig .tc .vmem S4x1792x128 .i32) (harg5 : arg5.IsWhole)
    (arg6 : Memref sig .tc .vmem S64x512 .bf16) (harg6 : arg6.IsWhole)
    (x1 : Vec F S1792x512 .i8) (x2 : Vec F S28x512 .f32) (x3 : Vec F S28x512 .i8) (x4 : Vec F S4x1792x128 .i32) (x5 : Vec F S64x512 .bf16) :
    kernelRun1_A.sl.HS0_114 c arg2 harg2 arg3 harg3 arg4 harg4 arg5 harg5 arg6 harg6 x1 x2 x3 x4 x5
      = ⟨Rect.unit (s := S3840x512) ![3584, 0] S64x512.size inb_S3840x512_S64x512_3584_0,
          k1_pay3 (View.readAt (Elt F) arg6.view (Rect.unit (s := S64x512) ![0, 0] S64x512.size inb_S64x512_S64x512_0_0).toLoadRect (harg6.unread x5))⟩
        :: ⟨Rect.unit (s := S3840x512) ![3584, 0] S256x512.size inb_S3840x512_S256x512_3584_0, k1_pay2 (F := F)⟩
        :: List.ofFn fun k : Fin 112 =>
          (⟨Rect.unit (s := S3840x512) ![128 * ((111 - k.val) / 4), 128 * ((111 - k.val) % 4)] S128x128.size (inb_chunk (111 - k.val) (by omega)),
            chunkPiece arg2 harg2 arg3 harg3 arg4 harg4 arg5 harg5 x1 x2 x3 x4 ((111 - k.val) / 4) ((111 - k.val) % 4) (by omega) (by omega)⟩
            : View.Piece (Elt F) S3840x512 .bf16) := by
  sl_kernel_rfl

/-- The merged weight matrix of `C` lane blocks of 128 columns: at row `k` and column `n` the entry of code row `k / 2`, group
    `k / 128` and sparse word `(n / 128, k / 2, n % 128)` below row 3584; a quarter of the low-rank factor's row `k - 3584` below
    row 3648; zero from there on. -/
def weight {N C : Nat} (hN : N = 128 * C) (x1 : Vec Ideal ⟨2, ![1792, N]⟩ .i8) (x2 : Vec Ideal ⟨2, ![28, N]⟩ .f32) (x3 : Vec Ideal ⟨2, ![28, N]⟩ .i8)
    (x4 : Vec Ideal ⟨3, ![C, 1792, 128]⟩ .i32) (x5 : Vec Ideal ⟨2, ![64, N]⟩ .bf16) (k : Nat) (n : Fin N) : EReal :=
  if h : k < 3584 then
    entry (x1 (ix2 ⟨k / 2, by omega⟩ n)) (x3 (ix2 ⟨k / 128, by omega⟩ n)) (x2 (ix2 ⟨k / 128, by omega⟩ n))
      (x4 (ix3 ⟨n.val / 128, by have := n.isLt; omega⟩ ⟨k / 2, by omega⟩ ⟨n.val % 128, Nat.mod_lt _ (by decide)⟩)) (k % 2)
  else if h : k < 3648 then x5 (ix2 ⟨k - 3584, by omega⟩ n) * Ideal.ofBits .bf16 0x3E80#16
  else 0

/-- A chunk at a local index is the weight at the chunk's place. -/
theorem chunkPiece_apply (arg2 : Memref sig .tc .vmem S1792x512 .i8) (harg2 : arg2.IsWhole) (arg3 : Memref sig .tc .vmem S28x512 .f32) (harg3 : arg3.IsWhole)
    (arg4 : Memref sig .tc .vmem S28x512 .i8) (harg4 : arg4.IsWhole) (arg5 : Memref sig .tc .vmem S4x1792x128 .i32) (harg5 : arg5.IsWhole)
    (x1 : Vec Ideal S1792x512 .i8) (x2 : Vec Ideal S28x512 .f32) (x3 : Vec Ideal S28x512 .i8) (x4 : Vec Ideal S4x1792x128 .i32) (x5 : Vec Ideal S64x512 .bf16)
    (g c : Nat) (hg : g < 28) (hc : c < 4) (x : S128x128.Idx) (k : Nat) (n : Fin 512) (hk : k = 128 * g + (x 0).val) (hn : n.val = 128 * c + (x 1).val) :
    chunkPiece (F := Ideal) arg2 harg2 arg3 harg3 arg4 harg4 arg5 harg5 x1 x2 x3 x4 g c hg hc x = weight (C := 4) rfl x1 x2 x3 x4 x5 k n := by
  have hx0 : (x 0).val < 128 := (x 0).isLt
  have hx1 : (x 1).val < 128 := (x 1).isLt
  have hk' : k < 3584 := by omega
  unfold chunkPiece weight
  rw [dif_pos hk']
  rw [chunk_apply _ _ _ _ _ _ x (ix2 ⟨(x 0).val / 2, by omega⟩ ⟨(x 1).val, hx1⟩) rfl rfl
    (ix2 ⟨0, by decide⟩ ⟨128 * c + (x 1).val, by omega⟩) rfl rfl
    (ix3 ⟨0, by decide⟩ ⟨(x 0).val / 2, by omega⟩ ⟨(x 1).val, hx1⟩) rfl rfl rfl]
  simp only [View.readAt_eq_ld, Memref.IsWhole.read_unread]
  rw [View.ld_unit_apply_of x1 ![64 * g, 128 * c] ![64, 128] _ (ix2 ⟨(x 0).val / 2, by omega⟩ ⟨(x 1).val, hx1⟩) (ix2 ⟨k / 2, by omega⟩ n) (fun a => match a with
      | ⟨0, _⟩ => (by show k / 2 = 64 * g + (x 0).val / 2; omega) | ⟨1, _⟩ => hn),
    View.ld_unit_apply_of x3 ![g, 0] ![1, 512] _ (ix2 ⟨0, by decide⟩ ⟨128 * c + (x 1).val, by omega⟩) (ix2 ⟨k / 128, by omega⟩ n) (fun a => match a with
      | ⟨0, _⟩ => (by show k / 128 = g + 0; omega) | ⟨1, _⟩ => (by show n.val = 0 + (128 * c + (x 1).val); omega)),
    View.ld_unit_apply_of x2 ![g, 0] ![1, 512] _ (ix2 ⟨0, by decide⟩ ⟨128 * c + (x 1).val, by omega⟩) (ix2 ⟨k / 128, by omega⟩ n) (fun a => match a with
      | ⟨0, _⟩ => (by show k / 128 = g + 0; omega) | ⟨1, _⟩ => (by show n.val = 0 + (128 * c + (x 1).val); omega)),
    View.ld_unit_apply_of x4 ![c, 64 * g, 0] ![1, 64, 128] _ (ix3 ⟨0, by decide⟩ ⟨(x 0).val / 2, by omega⟩ ⟨(x 1).val, hx1⟩) (ix3 ⟨n.val / 128, by omega⟩ ⟨k / 2, by omega⟩ ⟨n.val % 128, Nat.mod_lt _ (by decide)⟩) (fun a => match a with
      | ⟨0, _⟩ => (by show n.val / 128 = c + 0; omega) | ⟨1, _⟩ => (by show k / 2 = 64 * g + (x 0).val / 2; omega)
      | ⟨2, _⟩ => (by show n.val % 128 = 0 + (x 1).val; omega)),
    show (x 0).val % 2 = k % 2 by omega]

/-- A store that misses the index is skipped … -/
theorem canon_skip {s : Shape} {e : EltTy} {Val : EltTy → Type} [∀ e, Nonempty (Val e)] (off size : Fin s.rank → Nat) (inb : ∀ a, off a + size a ≤ s.size a)
    (w : (Rect.unit off size inb).shape.Idx → Val e) (L : List (View.Piece Val s e)) (y : s.Idx) (a : Fin s.rank)
    (h : (y a).val < off a ∨ off a + size a ≤ (y a).val) :
    View.canon ((⟨Rect.unit off size inb, w⟩ : View.Piece Val s e) :: L) y = View.canon L y := by
  refine View.canon_cons_of_not_mem _ _ fun hm => ?_
  have := (Rect.mem_set_unit (inb := inb)).mp hm a
  omega

/-- … and one that covers it gives its payload there. -/
theorem canon_hit {s : Shape} {e : EltTy} {Val : EltTy → Type} [∀ e, Nonempty (Val e)] (off size : Fin s.rank → Nat) (inb : ∀ a, off a + size a ≤ s.size a)
    (w : (Rect.unit off size inb).shape.Idx → Val e) (L : List (View.Piece Val s e)) (y : s.Idx) (x : (Rect.unit off size inb).shape.Idx)
    (h : ∀ a, (y a).val = off a + (x a).val) :
    View.canon ((⟨Rect.unit off size inb, w⟩ : View.Piece Val s e) :: L) y = w x := by
  have : y = (Rect.unit off size inb).emb x := funext fun a => Fin.ext ((h a).trans (Rect.idx_unit_val off size inb x a).symm)
  rw [this, View.canon_cons_emb]

/-- What the scratch array holds after the stores of one grid point, at every index: the merged weight matrix of the point's
    blocks. -/
theorem scratch_apply (c : Dev nD) (arg2 : Memref sig .tc .vmem S1792x512 .i8) (harg2 : arg2.IsWhole) (arg3 : Memref sig .tc .vmem S28x512 .f32) (harg3 : arg3.IsWhole)
    (arg4 : Memref sig .tc .vmem S28x512 .i8) (harg4 : arg4.IsWhole) (arg5 : Memref sig .tc .vmem S4x1792x128 .i32) (harg5 : arg5.IsWhole)
    (arg6 : Memref sig .tc .vmem S64x512 .bf16) (harg6 : arg6.IsWhole)
    (x1 : Vec Ideal S1792x512 .i8) (x2 : Vec Ideal S28x512 .f32) (x3 : Vec Ideal S28x512 .i8) (x4 : Vec Ideal S4x1792x128 .i32) (x5 : Vec Ideal S64x512 .bf16)
    (y : S3840x512.Idx) :
    View.canon (kernelRun1_A.sl.HS0_114 (F := Ideal) c arg2 harg2 arg3 harg3 arg4 harg4 arg5 harg5 arg6 harg6 x1 x2 x3 x4 x5) y
      = weight (C := 4) rfl x1 x2 x3 x4 x5 (y 0).val (y 1) := by
  have hy0 : (y 0).val < 3840 := (y 0).isLt
  have hy1 : (y 1).val < 512 := (y 1).isLt
  rw [stores_eq]
  by_cases h1 : (y 0).val < 3584
  · rw [canon_skip _ _ _ _ _ _ 0 (Or.inl h1), canon_skip _ _ _ _ _ _ 0 (Or.inl h1)]
    apply View.canon_ofFn_unit_eq_of_forall
    · refine ⟨⟨111 - (4 * ((y 0).val / 128) + (y 1).val / 128), by omega⟩, fun a => ?_⟩
      match a with
      | ⟨0, _⟩ => show 128 * _ ≤ (y 0).val ∧ (y 0).val < 128 * _ + 128; dsimp only; omega
      | ⟨1, _⟩ => show 128 * _ ≤ (y 1).val ∧ (y 1).val < 128 * _ + 128; dsimp only; omega
    · intro k x hx
      exact chunkPiece_apply arg2 harg2 arg3 harg3 arg4 harg4 arg5 harg5 x1 x2 x3 x4 x5 _ _ _ _ x _ _ (hx 0) (hx 1)
  · by_cases h2 : (y 0).val < 3648
    · rw [canon_hit _ _ _ _ _ _ (ix2 ⟨(y 0).val - 3584, by omega⟩ (y 1)) (fun a => match a with
        | ⟨0, _⟩ => (by show (y 0).val = 3584 + ((y 0).val - 3584); omega) | ⟨1, _⟩ => (by show (y 1).val = 0 + (y 1).val; omega))]
      unfold weight
      rw [dif_neg h1, dif_pos h2]
      unfold k1_pay3
      dsimp only
      rw [shapeCast_self, View.readAt_eq_ld, Memref.IsWhole.read_unread, View.ld_unit_lit _ _ (by decide)]
      rfl
    · rw [canon_skip _ _ _ _ _ _ 0 (Or.inr (by show 3584 + 64 ≤ (y 0).val; omega)),
        canon_hit _ _ _ _ _ _ (ix2 ⟨(y 0).val - 3584, by omega⟩ (y 1)) (fun a => match a with
        | ⟨0, _⟩ => (by show (y 0).val = 3584 + ((y 0).val - 3584); omega) | ⟨1, _⟩ => (by show (y 1).val = 0 + (y 1).val; omega))]
      unfold weight
      rw [dif_neg h1, dif_neg h2]
      unfold k1_pay2
      dsimp only
      rw [shapeCast_self]
      exact Ideal.ofBits_zero_bf16

end Cert.KernelIdeal.Gen
-- ==== Proof.Matmul.lean ====
/- The second call: its output array is the product of the widened activations and the merged weight matrix of the whole arrays. -/
module

public import proofs.«01_k».proof.Proof.Weights
public import Idealize.ShloMosaic.Lib.MatmulPlain

@[expose] public section

set_option maxRecDepth 65536

noncomputable section

namespace Cert.KernelIdeal.Gen

open Idealize.ShloMosaic Idealize.ShloMosaic.Tactic Idealize.ShloMosaic.TcCoe
open Idealize.ShloMosaic.Pipeline (Dat Cfg Window BodyObligation cellOf)

/-- The product of an activation matrix of 3840 columns and the merged weight matrix. -/
def product (xt : Vec Ideal S1920x3840 .bf16) (x1 : Vec Ideal S1792x18944 .i8) (x2 : Vec Ideal S28x18944 .f32) (x3 : Vec Ideal S28x18944 .i8)
    (x4 : Vec Ideal S148x1792x128 .i32) (x5 : Vec Ideal S64x18944 .bf16) : Vec Ideal S1920x18944 .bf16 :=
  fun y => ∑ k : Fin 3840, xt (ix2 (y 0) k) * weight (C := 148) rfl x1 x2 x3 x4 x5 k.val (y 1)

/-- What the kernel leaves in its output block at a grid point: the product of the activations and the merged weight matrix of
    the point's blocks. -/
theorem matmul_block (c : Dev nD) (i : grid1.Coords) (arg1 : Memref sig .tc .vmem S1920x3840 .bf16) (harg1 : arg1.IsWhole) (arg2 : Memref sig .tc .vmem S1792x512 .i8) (harg2 : arg2.IsWhole)
    (arg3 : Memref sig .tc .vmem S28x512 .f32) (harg3 : arg3.IsWhole) (arg4 : Memref sig .tc .vmem S28x512 .i8) (harg4 : arg4.IsWhole)
    (arg5 : Memref sig .tc .vmem S4x1792x128 .i32) (harg5 : arg5.IsWhole) (arg6 : Memref sig .tc .vmem S64x512 .bf16) (harg6 : arg6.IsWhole)
    (arg7 : Memref sig .tc .vmem S1920x512 .bf16) (harg7 : arg7.IsWhole) (arg8 : Memref sig .tc .vmem S3840x512 .bf16) (harg8 : arg8.IsWhole)
    (x0 : Vec Ideal S1920x3840 .bf16) (x1 : Vec Ideal S1792x512 .i8) (x2 : Vec Ideal S28x512 .f32) (x3 : Vec Ideal S28x512 .i8) (x4 : Vec Ideal S4x1792x128 .i32) (x5 : Vec Ideal S64x512 .bf16)
    (y : S1920x512.Idx) :
    out1_A_6 (F := Ideal) c i arg1 harg1 arg2 harg2 arg3 harg3 arg4 harg4 arg5 harg5 arg6 harg6 arg7 harg7 arg8 harg8 x0 x1 x2 x3 x4 x5 y
      = ∑ k : Fin 3840, x0 (ix2 (y 0) k) * weight (C := 4) rfl x1 x2 x3 x4 x5 k.val (y 1) := by
  unfold out1_A_6
  rw [View.read_writes_junk_eq_canon]
  have hL : (kernelRun1_A (F := Ideal) c i arg1 harg1 arg2 harg2 arg3 harg3 arg4 harg4 arg5 harg5 arg6 harg6 arg7 harg7 arg8 harg8 x0 x1 x2 x3 x4 x5).1
      = [⟨Rect.unit (s := S1920x512) ![0, 0] S1920x512.size inb_S1920x512_S1920x512_0_0,
          k1_pay4 (View.readAt (Elt Ideal) arg1.view (Rect.unit (s := S1920x3840) ![0, 0] S1920x3840.size inb_S1920x3840_S1920x3840_0_0).toLoadRect (harg1.unread x0))
            (kernelRun1_A.sl.v2784 c arg2 harg2 arg3 harg3 arg4 harg4 arg5 harg5 arg6 harg6 arg8 x1 x2 x3 x4 x5)⟩] := by sl_kernel_rfl
  rw [hL, View.canon_cons_unit_lit _ _ _ (by decide), View.readAt_eq_ld, Memref.IsWhole.read_unread, View.ld_unit_lit _ _ (by decide)]
  unfold k1_pay4
  rw [shapeCast_self]
  obtain ⟨r, n, rfl⟩ : ∃ (r : Fin 1920) (n : Fin 512), y = ValueIdx.ix2 r n := ⟨y 0, y 1, eq_ix2 y⟩
  refine (Ideal.matmul_plain_apply (M := 1920) (K := 3840) (N := 512) (φ₁ := .bf16) (φ₂ := .bf16) none x0 _ _ r n).trans ?_
  have hz : (constant (F := Ideal) S1920x512 .f32 0x00000000#32) (ValueIdx.ix2 r n) = 0 := Ideal.ofBits_zero_f32
  refine (congrArg (· + _) hz).trans ((zero_add _).trans ?_)
  refine Finset.sum_congr rfl fun k _ => congrArg (x0 (ix2 r k) * ·) ?_
  unfold kernelRun1_A.sl.v2784
  rw [View.readCov_eq_canon']
  refine Eq.trans (congrArg _ ?_) (scratch_apply c arg2 harg2 arg3 harg3 arg4 harg4 arg5 harg5 arg6 harg6 x1 x2 x3 x4 x5 (ix2 k n))
  funext a
  apply Fin.ext
  refine (Rect.idx_unit_val (s := S3840x512) ![0, 0] ![3840, 512] inb_S3840x512_S3840x512_0_0 (ix2 k n) a).trans ?_
  match a with
  | ⟨0, _⟩ => exact Nat.zero_add _
  | ⟨1, _⟩ => exact Nat.zero_add _

/-- The block indices of the windows of the second call. -/
theorem idx1 (t : Fin cfg1.N) : win1_0.index t = ![0, 0] ∧ win1_1.index t = ![0, t.val] ∧ win1_2.index t = ![0, t.val] ∧ win1_3.index t = ![0, t.val]
    ∧ win1_4.index t = ![t.val, 0, 0] ∧ win1_5.index t = ![0, t.val] ∧ win1_6.index t = ![0, t.val] := by
  revert t; decide +kernel

/-- The merged weight matrix of lane blocks cut out of whole arrays is the matching part of the merged matrix of the arrays. -/
theorem weight_block (o : Nat) (x1 : Vec Ideal S1792x512 .i8) (x2 : Vec Ideal S28x512 .f32) (x3 : Vec Ideal S28x512 .i8) (x4 : Vec Ideal S4x1792x128 .i32)
    (x5 : Vec Ideal S64x512 .bf16) (X1 : Vec Ideal S1792x18944 .i8) (X2 : Vec Ideal S28x18944 .f32) (X3 : Vec Ideal S28x18944 .i8)
    (X4 : Vec Ideal S148x1792x128 .i32) (X5 : Vec Ideal S64x18944 .bf16)
    (h1 : ∀ (a : Fin 1792) (n : Fin 512) (n' : Fin 18944), n'.val = 512 * o + n.val → x1 (ix2 a n) = X1 (ix2 a n'))
    (h2 : ∀ (a : Fin 28) (n : Fin 512) (n' : Fin 18944), n'.val = 512 * o + n.val → x2 (ix2 a n) = X2 (ix2 a n'))
    (h3 : ∀ (a : Fin 28) (n : Fin 512) (n' : Fin 18944), n'.val = 512 * o + n.val → x3 (ix2 a n) = X3 (ix2 a n'))
    (h4 : ∀ (a : Fin 4) (a' : Fin 148) (b : Fin 1792) (e : Fin 128), a'.val = 4 * o + a.val → x4 (ix3 a b e) = X4 (ix3 a' b e))
    (h5 : ∀ (a : Fin 64) (n : Fin 512) (n' : Fin 18944), n'.val = 512 * o + n.val → x5 (ix2 a n) = X5 (ix2 a n'))
    (k : Nat) (n : Fin 512) (n' : Fin 18944) (hn : n'.val = 512 * o + n.val) :
    weight (C := 4) rfl x1 x2 x3 x4 x5 k n = weight (C := 148) rfl X1 X2 X3 X4 X5 k n' := by
  unfold weight
  split
  · rw [h1 _ n n' hn, h2 _ n n' hn, h3 _ n n' hn, h4 _ ⟨n'.val / 128, by omega⟩ _ _ (by show n'.val / 128 = 4 * o + n.val / 128; omega)]
    congr 3
    ext1
    show n.val % 128 = n'.val % 128
    omega
  · split
    · rw [h5 _ n n' hn]
    · rfl

/-- **The output array of the second call**: the product of the activation matrix and the merged weight matrix. -/
theorem matmul_array (V : (c : Dev nD) → (b : Ref sig .tc) → Buf (Elt Ideal) ((c : Thread nD τ).loc b)) (c : Dev nD) :
    (dat1 V c).arrAt 6 cfg1.N = product (V c main_v2) (V c main_arg1) (V c main_arg2) (V c main_arg3) (V c main_arg4) (V c main_arg6) := by
  refine (dat1 V c).arrAt_eq_of_covers 6 _ (by decide +kernel) fun t hf y => ?_
  blk_simp
  rw [after1_6]
  unfold outsAt1
  refine (matmul_block ..).trans ?_
  obtain ⟨i0, i1, i2, i3, i4, i5, i6⟩ := idx1 t
  have e0 : (((win1_6.blk t).view.emb y) 0).val = (y 0).val := by blk_simp [i6]
  have e1 : (((win1_6.blk t).view.emb y) 1).val = 512 * t.val + (y 1).val := by blk_simp [i6]; omega
  unfold product
  refine Finset.sum_congr rfl fun k _ => ?_
  have hx : iblk1 V c 0 t (ix2 (y 0) k) = V c main_v2 (ix2 (((win1_6.blk t).view.emb y) 0) k) := by
    blk_ext [iblk1, i0, i6]
  have hw : weight (C := 4) rfl (iblk1 V c 1 t) (iblk1 V c 2 t) (iblk1 V c 3 t) (iblk1 V c 4 t) (iblk1 V c 5 t) k.val (y 1)
      = weight (C := 148) rfl (V c main_arg1) (V c main_arg2) (V c main_arg3) (V c main_arg4) (V c main_arg6) k.val (((win1_6.blk t).view.emb y) 1) := by
    refine weight_block t.val _ _ _ _ _ _ _ _ _ _ ?_ ?_ ?_ ?_ ?_ k.val (y 1) _ e1
    · intro a n n' hn; blk_ext [iblk1, i1]
    · intro a n n' hn; blk_ext [iblk1, i2]
    · intro a n n' hn; blk_ext [iblk1, i3]
    · intro a a' b e hn; blk_ext [iblk1, i4]
    · intro a n n' hn; blk_ext [iblk1, i5]
  exact congrArg₂ (· * ·) hx hw

end Cert.KernelIdeal.Gen
-- ==== Proof.Lowrank.lean ====
/- The first call: its output array is the activation matrix followed by its product with the first low-rank factor and by zero
   columns. -/
module

public import proofs.«01_k».proof.Proof.Weights
public import Idealize.ShloMosaic.Lib.MatmulPlain

@[expose] public section

set_option maxRecDepth 65536

noncomputable section

namespace Cert.KernelIdeal.Gen

open Idealize.ShloMosaic Idealize.ShloMosaic.Tactic Idealize.ShloMosaic.TcCoe
open Idealize.ShloMosaic.Pipeline (Dat Cfg Window BodyObligation cellOf)

/-- An activation matrix of `M` rows widened to 3840 columns: its own 3584 columns, then its product with the transposed factor in 64
    columns, then zeros. -/
def widened {M : Nat} (x : Vec Ideal ⟨2, ![M, 3584]⟩ .bf16) (a : Vec Ideal S64x3584 .bf16) (i : Fin M) (k : Nat) : EReal :=
  if h : k < 3584 then x (ix2 i ⟨k, h⟩)
  else if h : k < 3648 then ∑ j : Fin 3584, x (ix2 i j) * a (ix2 ⟨k - 3584, by omega⟩ j)
  else 0

/-- A row of the widened matrix depends on that row of the activations only. -/
theorem widened_congr {M N : Nat} (x : Vec Ideal ⟨2, ![M, 3584]⟩ .bf16) (X : Vec Ideal ⟨2, ![N, 3584]⟩ .bf16) (a A : Vec Ideal S64x3584 .bf16)
    (i : Fin M) (i' : Fin N) (k : Nat) (hx : ∀ j : Fin 3584, x (ix2 i j) = X (ix2 i' j)) (ha : ∀ (b : Fin 64) (j : Fin 3584), a (ix2 b j) = A (ix2 b j)) :
    widened x a i k = widened X A i' k := by
  unfold widened
  simp only [hx, ha]

/-- What the kernel leaves in its output block at a grid point: the widened block of rows. -/
theorem lowrank_block (c : Dev nD) (i : grid0.Coords) (arg1 : Memref sig .tc .vmem S384x3584 .bf16) (harg1 : arg1.IsWhole)
    (arg2 : Memref sig .tc .vmem S64x3584 .bf16) (harg2 : arg2.IsWhole) (arg3 : Memref sig .tc .vmem S384x3840 .bf16) (harg3 : arg3.IsWhole)
    (x0 : Vec Ideal S384x3584 .bf16) (x1 : Vec Ideal S64x3584 .bf16) (r : Fin 384) (k : Fin 3840) :
    out0_A_2 (F := Ideal) c i arg1 harg1 arg2 harg2 arg3 harg3 x0 x1 (ix2 r k) = widened x0 x1 r k.val := by
  unfold out0_A_2
  rw [View.read_writes_junk_eq_canon]
  have hL : (kernelRun0_A (F := Ideal) c i arg1 harg1 arg2 harg2 arg3 harg3 x0 x1).1
      = [⟨Rect.unit (s := S384x3840) ![0, 3584] S384x64.size inb_S384x3840_S384x64_0_3584,
          k0_pay3 (View.readAt (Elt Ideal) arg1.view (Rect.unit (s := S384x3584) ![0, 0] S384x3584.size inb_S384x3584_S384x3584_0_0).toLoadRect (harg1.unread x0))
            (View.readAt (Elt Ideal) arg2.view (Rect.unit (s := S64x3584) ![0, 0] S64x3584.size inb_S64x3584_S64x3584_0_0).toLoadRect (harg2.unread x1))⟩,
        ⟨Rect.unit (s := S384x3840) ![0, 3584] S384x256.size inb_S384x3840_S384x256_0_3584, k0_pay2 (F := Ideal)⟩,
        ⟨Rect.unit (s := S384x3840) ![0, 0] S384x3584.size inb_S384x3840_S384x3584_0_0,
          k0_pay1 (View.readAt (Elt Ideal) arg1.view (Rect.unit (s := S384x3584) ![0, 0] S384x3584.size inb_S384x3584_S384x3584_0_0).toLoadRect (harg1.unread x0))⟩] := by
    sl_kernel_rfl
  rw [hL]
  simp only [View.readAt_eq_ld, Memref.IsWhole.read_unread]
  rw [View.ld_unit_lit _ _ (by decide), View.ld_unit_lit _ _ (by decide)]
  have hk := k.isLt
  unfold widened
  by_cases h1 : k.val < 3584
  · rw [dif_pos h1, canon_skip _ _ _ _ _ _ 1 (Or.inl h1), canon_skip _ _ _ _ _ _ 1 (Or.inl h1),
      canon_hit _ _ _ _ _ _ (ix2 r ⟨k.val, h1⟩) (fun a => match a with
        | ⟨0, _⟩ => (Nat.zero_add _).symm | ⟨1, _⟩ => (Nat.zero_add _).symm)]
    unfold k0_pay1
    rw [shapeCast_self]
  · rw [dif_neg h1]
    by_cases h2 : k.val < 3648
    · rw [dif_pos h2, canon_hit _ _ _ _ _ _ (ix2 r ⟨k.val - 3584, by omega⟩) (fun a => match a with
        | ⟨0, _⟩ => (Nat.zero_add _).symm | ⟨1, _⟩ => (by show k.val = 3584 + (k.val - 3584); omega))]
      unfold k0_pay3
      rw [shapeCast_self, shapeCast_self]
      refine (Ideal.matmul_transposedRhs_apply (M := 384) (K := 3584) (N := 64) (φ₁ := .bf16) (φ₂ := .bf16) none x0 x1 _ r ⟨k.val - 3584, by omega⟩).trans ?_
      have hz : (constant (F := Ideal) S384x64 .f32 0x00000000#32) (ValueIdx.ix2 r ⟨k.val - 3584, by omega⟩) = 0 := Ideal.ofBits_zero_f32
      exact (congrArg (· + _) hz).trans (zero_add _)
    · rw [dif_neg h2, canon_skip _ _ _ _ _ _ 1 (Or.inr (by show 3584 + 64 ≤ k.val; omega)),
        canon_hit _ _ _ _ _ _ (ix2 r ⟨k.val - 3584, by omega⟩) (fun a => match a with
        | ⟨0, _⟩ => (Nat.zero_add _).symm | ⟨1, _⟩ => (by show k.val = 3584 + (k.val - 3584); omega))]
      exact Ideal.ofBits_zero_bf16

/-- The block indices of the windows of the first call. -/
theorem idx0 (t : Fin cfg0.N) : win0_0.index t = ![t.val, 0] ∧ win0_1.index t = ![0, 0] ∧ win0_2.index t = ![t.val, 0] := by
  revert t; decide +kernel

/-- **The output array of the first call**: the widened activation matrix. -/
theorem lowrank_array (V : (c : Dev nD) → (b : Ref sig .tc) → Buf (Elt Ideal) ((c : Thread nD τ).loc b)) (c : Dev nD) :
    (dat0 V c).arrAt 2 cfg0.N = fun y : S1920x3840.Idx => widened (M := 1920) (V c main_v0) (V c main_v1) (y 0) (y 1).val := by
  refine (dat0 V c).arrAt_eq_of_covers 2 _ (by decide +kernel) fun t hf y => ?_
  blk_simp
  rw [after0_2]
  unfold outsAt0
  obtain ⟨r, k, rfl⟩ : ∃ (r : Fin 384) (k : Fin 3840), y = ix2 r k := ⟨y 0, y 1, eq_ix2 y⟩
  refine (lowrank_block c _ _ _ _ _ _ _ _ _ r k).trans ?_
  obtain ⟨i0, i1, i2⟩ := idx0 t
  have e0 : (((win0_2.blk t).view.emb (ix2 r k)) 0).val = 384 * t.val + r.val := by blk_simp [i2]; omega
  have e1 : (((win0_2.blk t).view.emb (ix2 r k)) 1).val = k.val := by blk_simp [i2]
  have hx : ∀ j : Fin 3584, iblk0 V c 0 t (ix2 r j) = V c main_v0 (ix2 (((win0_2.blk t).view.emb (ix2 r k)) 0) j) := by
    intro j; blk_ext [iblk0, i0, i2]
  have ha : ∀ (b : Fin 64) (j : Fin 3584), iblk0 V c 1 t (ix2 b j) = V c main_v1 (ix2 b j) := by
    intro b j; blk_ext [iblk0, i1]
  have e2 : win0_2.index t 1 * 3840 + ((ix2 (n0 := 384) (n1 := 3840) r k) 1).val = k.val := by rw [i2]; exact (congrArg (· + k.val) (Nat.zero_mul 3840)).trans (Nat.zero_add _)
  exact (widened_congr _ _ _ _ r _ k.val hx ha).trans (congrArg (widened (M := 1920) (V c main_v0) (V c main_v1) _) e2.symm)

end Cert.KernelIdeal.Gen
-- ==== Proof.Run.lean ====
/- The run of the two-call program with the value of its result: every execution ends with the result array at what the
   second call's pipeline leaves in it, and with the arguments unchanged. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every execution of the program ends with the result holding what the second call
    leaves in its output array after its last block, and each argument as it was. -/
theorem run_result : θ_run defs (onTc (τ := τ) (main (F := F))) ⟨m, fun _ => 0, ρ⟩ (fun r => ∀ c : Dev nD,
      r.2.mem ((c.tc : Thread nD τ).loc main_v3) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v3 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Gen

end
-- ==== Proof.KernelValue.lean ====
/- The result of the two calls as one formula in the arguments. -/
module

public import proofs.«01_k».proof.Proof.Matmul
public import proofs.«01_k».proof.Proof.Lowrank
public import proofs.«01_k».proof.Proof.Run
public import Idealize.ShloMosaic.Lib.ValueLayout

@[expose] public section

set_option maxRecDepth 65536

noncomputable section

namespace Cert.KernelIdeal.Gen

open Idealize.ShloMosaic Idealize.ShloMosaic.Tactic Idealize.ShloMosaic.TcCoe
open Idealize.ShloMosaic.Pipeline (Dat Cfg Window BodyObligation cellOf)

variable (m : (ℓ : Loc nD τ sig) → Buf (Elt Ideal) ℓ) (ρ : Dev nD → PrngReg)

/-- The first call reads the activations as a matrix: row `i` is row `i % 640` of batch entry `i / 640`. -/
theorem entry_x (c : Dev nD) (i : Fin 1920) (j : Fin 3584) :
    (V1 m ρ c main_v0 : Vec Ideal S1920x3584 .bf16) (ix2 i j)
      = (m ((c : Thread nD τ).loc main_arg0) : Vec Ideal S3x640x3584 .bf16) (ix3 ⟨i.val / 640, by omega⟩ ⟨i.val % 640, Nat.mod_lt _ (by decide)⟩ j) := by
  have h : V1 m ρ c main_v0 = shapeCast S1920x3584 (m ((c : Thread nD τ).loc main_arg0) : Vec Ideal S3x640x3584 .bf16) shapeCasts_S3x640x3584_S1920x3584 := by
    show StableHlo.after hostOps0 (W0 m ρ c) (Proc.devRef .tc main_v0) = _
    entry_read
    rfl
  rw [h]
  refine shapeCast_apply (s := S3x640x3584) _ _ _ (ix3 ⟨i.val / 640, by omega⟩ ⟨i.val % 640, Nat.mod_lt _ (by decide)⟩ j) ?_
  rw [Shape.rowMajor_val_two, Shape.rowMajor_val_three]
  show (i.val / 640 * 640 + i.val % 640) * 3584 + j.val = i.val * 3584 + j.val
  omega

/-- The first call reads the first low-rank factor transposed. -/
theorem entry_a (c : Dev nD) (b : Fin 64) (j : Fin 3584) :
    (V1 m ρ c main_v1 : Vec Ideal S64x3584 .bf16) (ix2 b j) = (m ((c : Thread nD τ).loc main_arg5) : Vec Ideal S3584x64 .bf16) (ix2 j b) := by
  have h : V1 m ρ c main_v1 = transpose S64x3584 [1, 0] (m ((c : Thread nD τ).loc main_arg5) : Vec Ideal S3584x64 .bf16) transposes_S3584x64_S64x3584_1_0 := by
    show StableHlo.after hostOps0 (W0 m ρ c) (Proc.devRef .tc main_v1) = _
    entry_read
    rfl
  rw [h]
  exact ValueIdx.transpose_ix2_apply _ _ b j

/-- The result of the two calls: the widened activations times the weights, both read from the arguments. -/
theorem kernel_value (c : Dev nD) :
    (dat1 (V2 m ρ) c).arrAt 6 cfg1.N
      = product (fun y : S1920x3840.Idx => widened (M := 1920) (V1 m ρ c main_v0) (V1 m ρ c main_v1) (y 0) (y 1).val)
          (m ((c : Thread nD τ).loc main_arg1)) (m ((c : Thread nD τ).loc main_arg2)) (m ((c : Thread nD τ).loc main_arg3))
          (m ((c : Thread nD τ).loc main_arg4)) (m ((c : Thread nD τ).loc main_arg6)) := by
  refine (matmul_array (V2 m ρ) c).trans ?_
  have h2 : V2 m ρ c main_v2 = fun y : S1920x3840.Idx => widened (M := 1920) (V1 m ρ c main_v0) (V1 m ρ c main_v1) (y 0) (y 1).val :=
    (W2_arr m ρ c 2).trans (lowrank_array (V1 m ρ) c)
  have h (a) (ha : a ∈ argRefs) : V2 m ρ c a = m ((c : Thread nD τ).loc a) := W2_args m ρ c a ha
  rw [h2, h main_arg1 (by decide), h main_arg2 (by decide), h main_arg3 (by decide), h main_arg4 (by decide), h main_arg6 (by decide)]

end Cert.KernelIdeal.Gen
-- ==== Proof.PackValue.lean ====
/- What the packing call and its reference compute: word `k` of tile `t` in a column holds the bits of row `16 t + 2 k` in its low
   half and those of row `16 t + 2 k + 1` in its high half. -/
module

public import proofs.«01_k».proof.Proof.Gen.Pack.Value
public import proofs.«01_k».proof.Proof.Gen.PackReference.Run
public import Idealize.ShloMosaic.Lib.Pipeline.ValueKit
public import Idealize.ShloMosaic.Lib.BitcastConvert
public import Idealize.ShloMosaic.Lib.ValueIdx
public import Idealize.ShloMosaic.Lib.Pointwise

@[expose] public section

set_option maxRecDepth 65536

noncomputable section

namespace Cert.Pack.Gen

open Idealize.ShloMosaic Idealize.ShloMosaic.Tactic Idealize.ShloMosaic.TcCoe
open Idealize.ShloMosaic.Pipeline (Dat Cfg Window BodyObligation cellOf)

variable {F : FTy → Type} [BitOps F]

/-- The bits of the second value above those of the first. -/
def pair (lo hi : Elt F .bf16) : BitVec 32 := (BitOps.toBits (F := F) (φ := .bf16) hi : BitVec 16) ++ (BitOps.toBits (F := F) (φ := .bf16) lo : BitVec 16)

/-- Word `k` of tile `t` in column `j`: row `16 t + 2 k` in the low half, row `16 t + 2 k + 1` in the high half. -/
def word {N : Nat} (x : Vec F ⟨2, ![112, N]⟩ .bf16) (t : Fin 7) (k : Fin 8) (j : Fin N) : BitVec 32 :=
  pair (x (ix2 ⟨16 * t.val + 2 * k.val, by omega⟩ j)) (x (ix2 ⟨16 * t.val + (2 * k.val + 1), by omega⟩ j))

/-- A word depends on its column only. -/
theorem word_congr {M N : Nat} (x : Vec F ⟨2, ![112, M]⟩ .bf16) (y : Vec F ⟨2, ![112, N]⟩ .bf16) (t : Fin 7) (k : Fin 8) (i : Fin M) (j : Fin N)
    (h : ∀ r : Fin 112, x (ix2 r i) = y (ix2 r j)) : word x t k i = word y t k j := by
  unfold word
  simp only [h]

/-- Two rows of values read as one row of words. -/
theorem pair_apply (v : Vec F S16x4736 .bf16) (h : S16x4736.Bitcasts 16 S8x4736 32) (k : Fin 8) (j : Fin 4736) :
    bitcast S8x4736 32 (bitcastToInt v) h (ix2 k j) = pair (v (ix2 ⟨2 * k.val, by omega⟩ j)) (v (ix2 ⟨2 * k.val + 1, by omega⟩ j)) := by
  refine (bitcast_16_32 _ h (ix2 k j)).trans (congrArg₂ pair (congrArg v ?_) (congrArg v ?_)) <;>
  · refine funext fun a => Fin.ext ?_
    match a with
    | ⟨0, _⟩ => rfl
    | ⟨1, _⟩ => rfl

/-- One store of the kernel: the words of tile `t` of its block. -/
theorem tile_apply (x0 : Vec F S112x4736 .bf16) (t : Fin 7) (inb) (inb') (x : S1x8x4736.Idx) :
    k0_pay3 (View.ld x0 (Rect.unit (s := S112x4736) ![16 * t.val, 0] S16x4736.size inb)) x
      = (fun y : S7x8x4736.Idx => word x0 (y 0) (y 1) (y 2)) ((Rect.unit (s := S7x8x4736) ![t.val, 0, 0] S1x8x4736.size inb').emb x) := by
  obtain ⟨u, k, j, rfl⟩ : ∃ (u : Fin 1) (k : Fin 8) (j : Fin 4736), x = ix3 u k j := ⟨x 0, x 1, x 2, eq_ix3 x⟩
  have hu : u.val = 0 := by omega
  have e : (Rect.unit (s := S7x8x4736) ![t.val, 0, 0] S1x8x4736.size inb').emb (ix3 u k j) = ix3 t k j := by
    funext a; apply Fin.ext
    refine (Rect.idx_unit_val _ _ inb' (ix3 u k j) a).trans ?_
    match a with
    | ⟨0, _⟩ => show t.val + u.val = t.val; omega
    | ⟨1, _⟩ => show 0 + k.val = k.val; omega
    | ⟨2, _⟩ => show 0 + j.val = j.val; omega
  rw [e]
  have ei : (fun a : Fin 2 => (ix3 (n0 := 1) (n1 := 8) (n2 := 4736) u k j) a.succ) = ix2 (n0 := 8) (n1 := 4736) k j := by
    funext a
    match a with
    | ⟨0, _⟩ => rfl
    | ⟨1, _⟩ => rfl
  unfold k0_pay3
  refine (shapeCast_addUnit_apply ![8, 4736] _ _ _).trans ?_
  refine (congrArg (bitcast S8x4736 32 (bitcastToInt (View.ld x0 (Rect.unit (s := S112x4736) ![16 * t.val, 0] S16x4736.size inb)))
    bitcasts_S16x4736_w16_S8x4736_w32) ei).trans ((pair_apply _ _ k j).trans ?_)
  refine congrArg₂ pair (View.ld_unit_apply_of _ _ _ _ _ _ fun a => ?_) (View.ld_unit_apply_of _ _ _ _ _ _ fun a => ?_)
  · match a with
    | ⟨0, _⟩ => rfl
    | ⟨1, _⟩ => exact (Nat.zero_add _).symm
  · match a with
    | ⟨0, _⟩ => rfl
    | ⟨1, _⟩ => exact (Nat.zero_add _).symm

/-- What the kernel leaves in its output block: the words of its input block. -/
theorem block_apply (x0 : Vec F S112x4736 .bf16) (y : S7x8x4736.Idx) : out0_1 x0 y = word x0 (y 0) (y 1) (y 2) := by
  unfold out0_1
  refine View.canon_apply_of_pieces (fun y : S7x8x4736.Idx => word x0 (y 0) (y 1) (y 2)) _ ?_ y (cover0_1 (F := F) _ _ _ _ _ _ _ y)
  simp only [List.forall_mem_cons]
  exact ⟨tile_apply x0 6 _ _, tile_apply x0 5 _ _, tile_apply x0 4 _ _, tile_apply x0 3 _ _, tile_apply x0 2 _ _, tile_apply x0 1 _ _,
    tile_apply x0 0 _ _, fun _ h => absurd h List.not_mem_nil⟩

/-- The block indices of the two windows. -/
theorem idx0 (t : Fin cfg0.N) : win0_0.index t = ![0, t.val] ∧ win0_1.index t = ![0, 0, t.val] := by
  revert t; decide +kernel

/-- **The output array of the packing call**: the words of its argument. -/
theorem array_eq (m : (ℓ : Loc nD τ sig) → Buf (Elt F) ℓ) (c : Dev nD) :
    (dats m 0 c).arrAt 1 cfg0.N
      = fun y : S7x8x18944.Idx => word (N := 18944) (m ((c : Thread nD τ).loc main_arg0)) (y 0) (y 1) (y 2) := by
  refine (dats m 0 c).arrAt_eq_of_covers 1 _ (by decide +kernel) fun t hf y => ?_
  blk_simp
  rw [after0_1]
  obtain ⟨p, k, j, rfl⟩ : ∃ (p : Fin 7) (k : Fin 8) (j : Fin 4736), y = ix3 p k j := ⟨y 0, y 1, y 2, eq_ix3 y⟩
  refine (block_apply _ _).trans ?_
  obtain ⟨i0, i1⟩ := idx0 t
  have e0 : ((win0_1.blk t).view.emb (ix3 p k j)) 0 = p := Fin.ext (by blk_simp [i1])
  have e1 : ((win0_1.blk t).view.emb (ix3 p k j)) 1 = k := Fin.ext (by blk_simp [i1])
  have hx : ∀ r : Fin 112, iblk m c 0 t (ix2 r j) = m ((c : Thread nD τ).loc main_arg0) (ix2 r (((win0_1.blk t).view.emb (ix3 p k j)) 2)) := by
    intro r; blk_ext [iblk, i0, i1]
  refine (word_congr (iblk m c 0 t) (m ((c : Thread nD τ).loc main_arg0)) p k j _ hx).trans ?_
  exact congrArg₂ (fun p k => word (N := 18944) (m ((c : Thread nD τ).loc main_arg0)) p k (((win0_1.blk t).view.emb (ix3 p k j)) 2)) e0.symm e1.symm

end Cert.Pack.Gen

namespace Cert.PackReference.Value

open Cert.PackReference Cert.PackReference.Gen Idealize.ShloMosaic Idealize.ShloMosaic.TcCoe

variable {F : FTy → Type} [BitOps F]

/-- The reference's result: the words of its argument. -/
theorem result_apply (x : Vec F S112x18944 .bf16) (h0) (h1) (h2) (h3) (y : S7x8x18944.Idx) :
    shapeCast S7x8x18944 (Host.bitcastConvertWiden S56x18944 32 (bitcastToInt (transpose S56x18944x2 [0, 2, 1]
      (shapeCast S56x2x18944 x h0) h1)) h2) h3 y = Cert.Pack.Gen.word (N := 18944) x (y 0) (y 1) (y 2) := by
  obtain ⟨t, k, j, rfl⟩ : ∃ (t : Fin 7) (k : Fin 8) (j : Fin 18944), y = ix3 t k j := ⟨y 0, y 1, y 2, eq_ix3 y⟩
  rw [shapeCast_apply _ _ _ (ix2 ⟨8 * t.val + k.val, by omega⟩ j) (by simp [Shape.rowMajor_val_two, Shape.rowMajor_val_three]; omega)]
  have row (q : Fin 2) : (transpose S56x18944x2 [0, 2, 1] (shapeCast S56x2x18944 x h0) h1) (ix3 ⟨8 * t.val + k.val, by omega⟩ j q)
      = x (ix2 ⟨16 * t.val + (2 * k.val + q.val), by omega⟩ j) := by
    refine (transpose_apply _ _ _ _ (ix3 ⟨8 * t.val + k.val, by omega⟩ q j) fun b => ?_).trans (shapeCast_apply _ _ _ _ ?_)
    · match b with
      | ⟨0, _⟩ => rfl
      | ⟨1, _⟩ => rfl
      | ⟨2, _⟩ => rfl
    · simp [Shape.rowMajor_val_two, Shape.rowMajor_val_three]; omega
  refine (Host.bitcastConvertWiden_apply_16_32 _ _ _ _).trans (congrArg₂ Cert.Pack.Gen.pair (Eq.trans (congrArg _ ?_) (row 0)) (Eq.trans (congrArg _ ?_) (row 1))) <;>
  · refine funext fun a => Fin.ext ?_
    match a with
    | ⟨0, _⟩ => rfl
    | ⟨1, _⟩ => rfl
    | ⟨2, _⟩ => rfl

end Cert.PackReference.Value

end
-- ==== Proof.Algebra.lean ====
/- Sums and products of extended reals: where they may be regrouped, and how the sum over the padded rows splits. -/
module

public import Mathlib.Data.EReal.Operations
public import Mathlib.Algebra.BigOperators.Fin
public import Mathlib.Algebra.BigOperators.Intervals

@[expose] public section

namespace Cert.KernelIdeal.Gen

/-- A real number times the sum of a real number and any extended real is the sum of the two products. -/
theorem coe_mul_coe_add (a b : ℝ) (s : EReal) : (a : EReal) * ((b : EReal) + s) = (a : EReal) * b + (a : EReal) * s := by
  induction s with
  | coe s => norm_cast; ring
  | bot =>
    rcases lt_trichotomy a 0 with h | h | h
    · rw [EReal.add_bot, EReal.coe_mul_bot_of_neg h, ← EReal.coe_mul, EReal.coe_add_top]
    · simp [h]
    · rw [EReal.add_bot, EReal.coe_mul_bot_of_pos h, EReal.add_bot]
  | top =>
    rcases lt_trichotomy a 0 with h | h | h
    · rw [EReal.coe_add_top, EReal.coe_mul_top_of_neg h, EReal.add_bot]
    · simp [h]
    · rw [EReal.coe_add_top, EReal.coe_mul_top_of_pos h, ← EReal.coe_mul, EReal.coe_add_top]

/-- A nonnegative real number times a sum of extended reals is the sum of the products. -/
theorem coe_mul_sum {ι : Type} (s : Finset ι) (a : ℝ) (ha : 0 ≤ a) (f : ι → EReal) :
    (a : EReal) * ∑ b ∈ s, f b = ∑ b ∈ s, (a : EReal) * f b := by
  classical
  induction s using Finset.induction_on with
  | empty => simp
  | insert b s hb ih =>
    rw [Finset.sum_insert hb, Finset.sum_insert hb, ← ih]
    exact EReal.left_distrib_of_nonneg_of_ne_top (EReal.coe_nonneg.2 ha) (EReal.coe_ne_top a) _ _

/-- The sum over 3840 rows is the sum over the first 3584, the next 64 and the last 192. -/
theorem sum_split (f : ℕ → EReal) :
    ∑ k : Fin 3840, f k.val
      = (∑ k : Fin 3584, f k.val) + (∑ b : Fin 64, f (3584 + b.val)) + ∑ e : Fin 192, f (3648 + e.val) := by
  rw [Fin.sum_univ_eq_sum_range f 3840, Fin.sum_univ_eq_sum_range f 3584, Fin.sum_univ_eq_sum_range (fun b => f (3584 + b)) 64,
    Fin.sum_univ_eq_sum_range (fun e => f (3648 + e)) 192, show 3840 = 3584 + 64 + 192 from rfl, Finset.sum_range_add, Finset.sum_range_add]

/-- The sum over the rows of an even count is the sum over the even rows plus the sum over the odd rows. -/
theorem sum_parity (f : ℕ → EReal) (N : ℕ) :
    ∑ k ∈ Finset.range (2 * N), f k = (∑ r ∈ Finset.range N, f (2 * r)) + ∑ r ∈ Finset.range N, f (2 * r + 1) := by
  induction N with
  | zero => simp
  | succ N ih =>
    rw [show 2 * (N + 1) = 2 * N + 1 + 1 by ring, Finset.sum_range_succ, Finset.sum_range_succ, ih, Finset.sum_range_succ, Finset.sum_range_succ]
    ac_rfl

/-- The same for the 3584 rows of the weight matrix. -/
theorem sum_parity_rows (f : ℕ → EReal) :
    ∑ k : Fin 3584, f k.val = (∑ r : Fin 1792, f (2 * r.val)) + ∑ r : Fin 1792, f (2 * r.val + 1) := by
  rw [Fin.sum_univ_eq_sum_range f 3584, Fin.sum_univ_eq_sum_range (fun r => f (2 * r)) 1792,
    Fin.sum_univ_eq_sum_range (fun r => f (2 * r + 1)) 1792]
  exact sum_parity f 1792

end Cert.KernelIdeal.Gen
-- ==== Proof.Numbers.lean ====
/- The numbers the reference reads out of bytes and words: the two nibbles of a code byte, the two halves of a sparse word, the
   constants, and what the precondition says of a number. -/
module

public import proofs.«01_k».proof.Proof.Chunk

@[expose] public section

noncomputable section

namespace Cert.KernelIdeal.Gen

open Idealize.ShloMosaic

/-- The reference's low code, the byte masked by 15. -/
theorem low_code (q : BitVec 8) : (IntOp.andi (q.setWidth 32) 15#32).toInt = (nib q 0 : ℤ) := by
  have key : ∀ q : Fin 256, (IntOp.andi ((BitVec.ofFin (w := 8) q).setWidth 32) 15#32).toInt = (nib (BitVec.ofFin (w := 8) q) 0 : ℤ) := by
    decide +kernel
  exact key q.toFin

/-- The reference's high code, the byte shifted right by 4. -/
theorem high_code (q : BitVec 8) : (IntOp.shrsi .host (q.setWidth 32) 4#32).toInt = (nib q 1 : ℤ) := by
  have key : ∀ q : Fin 256, ((BitVec.ofFin (w := 8) q).setWidth 32 |>.sshiftRight' 4#32).toInt = (nib (BitVec.ofFin (w := 8) q) 1 : ℤ) := by
    decide +kernel
  unfold IntOp.shrsi
  rw [if_pos (by decide)]
  exact key q.toFin

/-- A zero point read through a 32-bit integer is its own number. -/
theorem zero_code (z : BitVec 8) : (z.setWidth 32).toInt = (z.toNat : ℤ) := by
  have := z.isLt
  rw [BitVec.toInt_eq_toNat_of_lt] <;> simp <;> omega

/-- An f32 pattern with sixteen low zero bits denotes what its upper half denotes as a bf16 pattern. -/
theorem ofBits_upper (w : BitVec 32) (hw : w.extractLsb' 0 16 = 0#16) :
    Ideal.ofBits .f32 w = Ideal.ofBits .bf16 (w.extractLsb' 16 16) := by
  have hs : (w.extractLsb' 16 16).extractLsb' 15 1 = w.extractLsb' 31 1 := by
    apply BitVec.eq_of_toNat_eq; simp [Nat.shiftRight_eq_div_pow]; omega
  have he : ((w.extractLsb' 16 16).extractLsb' 7 8).toNat = (w.extractLsb' 23 8).toNat := by
    simp [Nat.shiftRight_eq_div_pow]; omega
  have hf : (w.extractLsb' 0 23).toNat = ((w.extractLsb' 16 16).extractLsb' 0 7).toNat * 65536 := by
    have h0 := congrArg BitVec.toNat hw
    simp [Nat.shiftRight_eq_div_pow] at h0 ⊢; omega
  show Ideal.ieee 8 23 w = Ideal.ieee 8 7 _
  unfold Ideal.ieee
  simp only [show 8 + 23 = 31 from rfl, show 8 + 7 = 15 from rfl, hs, he, hf]
  generalize ((w.extractLsb' 16 16).extractLsb' 0 7).toNat = f
  generalize (w.extractLsb' 23 8).toNat = x
  generalize (if (w.extractLsb' 31 1 == 1#1) = true then (-1 : ℝ) else 1) = sg
  have h0 : (f * 65536 = 0) ↔ f = 0 := by omega
  simp only [h0]
  split
  · rfl
  · split
    · congr 1; push_cast; norm_num; ring
    · congr 1; push_cast
      have : (2 : ℝ) ^ ((x : ℤ) - 127 - 7) = (2 : ℝ) ^ ((x : ℤ) - 127 - 23) * 65536 := by
        rw [show (65536 : ℝ) = (2 : ℝ) ^ (16 : ℤ) by norm_num, ← zpow_add₀ (by norm_num)]; congr 1; ring
      rw [this]; ring

/-- The reference's number for the low half of a word. -/
theorem low_half (w : BitVec 32) : Ideal.ofBits .f32 (IntOp.shli .host w 16#32) = half w 0 := by
  unfold IntOp.shli half
  rw [if_pos (by decide), ofBits_upper]
  · congr 1
    apply BitVec.eq_of_toNat_eq; simp [Nat.shiftRight_eq_div_pow, Nat.shiftLeft_eq]; try omega
  · apply BitVec.eq_of_toNat_eq; simp [Nat.shiftLeft_eq]

/-- The reference's number for the high half of a word. -/
theorem high_half (w : BitVec 32) : Ideal.ofBits .f32 (IntOp.andi w 4294901760#32) = half w 1 := by
  have h0 : (IntOp.andi w 4294901760#32).extractLsb' 0 16 = 0#16 := by
    show (w &&& 4294901760#32).extractLsb' 0 16 = 0#16
    ext i hi
    interval_cases i <;> simp
  have h1 : (IntOp.andi w 4294901760#32).extractLsb' 16 16 = w.extractLsb' 16 16 := by
    show (w &&& 4294901760#32).extractLsb' 16 16 = _
    ext i hi
    interval_cases i <;> simp
  rw [ofBits_upper _ h0, h1]
  rfl

/-- The reference's constant 0.25, an f32 pattern. -/
theorem quarter_f32 : Ideal.ofBits .f32 0x3E800000#32 = ((1 / 4 : ℝ) : EReal) := by
  simp [Ideal.ofBits, Ideal.ieee, -EReal.coe_mul]; norm_num

/-- The kernel's constant 0.25, a bf16 pattern. -/
theorem quarter_bf16 : Ideal.ofBits .bf16 0x3E80#16 = ((1 / 4 : ℝ) : EReal) := by
  simp [Ideal.ofBits, Ideal.ieee, -EReal.coe_mul]; norm_num

/-- A number whose absolute value is below the infinity is a real number. -/
theorem real_of_abs_lt (x : EReal) (h : Ideal.cmp .olt (max x (-x)) ⊤ = 1#1) : ∃ a : ℝ, x = (a : EReal) := by
  induction x with
  | coe a => exact ⟨a, rfl⟩
  | bot => simp [Ideal.cmp] at h
  | top => simp [Ideal.cmp] at h

end Cert.KernelIdeal.Gen
-- ==== Proof.Reference.lean ====
/- The reference's result at an index, as sums over the rows of the weight matrix and over the rank. -/
module

public import proofs.«01_k».proof.Proof.Numbers
public import proofs.«01_k».proof.Proof.Gen.ReferenceIdeal.Read
public import Idealize.ShloMosaic.Lib.Pointwise

@[expose] public section

set_option maxRecDepth 65536

noncomputable section

namespace Cert.ReferenceIdeal.Read

open Cert.ReferenceIdeal Cert.ReferenceIdeal.Gen Idealize.ShloMosaic Idealize.ShloMosaic.TcCoe
open Cert.KernelIdeal.Gen (nib half low_code high_code zero_code low_half high_half quarter_f32)

variable (x0 : Vec Ideal S3x640x3584 .bf16) (x1 : Vec Ideal S1792x18944 .i8) (x2 : Vec Ideal S28x18944 .f32) (x3 : Vec Ideal S28x18944 .i8)
  (x4 : Vec Ideal S148x1792x128 .i32) (x5 : Vec Ideal S3584x64 .bf16) (x6 : Vec Ideal S64x18944 .bf16)

/-- Row `r` of the dequantized low codes. -/
theorem low_apply (r : Fin 1792) (n : Fin 18944) :
    val_main_v16 (F := Ideal) x1 x2 x3 (ix2 r n)
      = (((nib (x1 (ix2 r n)) 0 : ℝ) - ((x3 (ix2 ⟨r.val / 64, by omega⟩ n)).toNat : ℝ) : ℝ) : EReal) * x2 (ix2 ⟨r.val / 64, by omega⟩ n) := by
  have e1 : idx_main_v9 (idx_main_v16 (ix2 r n)) = ix2 r n := by
    funext a; apply Fin.ext
    match a with
    | ⟨0, _⟩ => dsimp; omega
    | ⟨1, _⟩ => dsimp; omega
  have e2 : idx_main_v10 (idx_main_v11 (idx_main_v16 (ix2 r n))) = ix2 ⟨r.val / 64, by omega⟩ n := by
    funext a; apply Fin.ext
    match a with
    | ⟨0, _⟩ => dsimp; omega
    | ⟨1, _⟩ => dsimp; omega
  have e3 : idx_main_v13 (idx_main_v14 (idx_main_v16 (ix2 r n))) = ix2 ⟨r.val / 64, by omega⟩ n := e2
  rw [val_main_v16_apply, val_main_v15_apply, val_main_v12_apply, val_main_v9_apply, val_main_v11_apply, val_main_v10_apply,
    val_main_v14_apply, val_main_v13_apply, e1, e2, e3, val_main_v8_apply, val_main_v7_apply, val_main_v5_apply, val_main_v2_apply,
    val_main_v6_apply, val_main_v0_apply, val_main_v1_apply, val_main_c_apply]
  show ((((IntOp.andi ((x1 (ix2 r n)).setWidth 32) 15#32).toInt : ℝ) : EReal) - ((((x3 (ix2 ⟨r.val / 64, by omega⟩ n)).setWidth 32).toInt : ℝ) : EReal)) * _ = _
  rw [low_code, zero_code, ← EReal.coe_sub]
  rfl

/-- Row `r` of the dequantized high codes. -/
theorem high_apply (r : Fin 1792) (n : Fin 18944) :
    val_main_v25 (F := Ideal) x1 x2 x3 (ix2 r n)
      = (((nib (x1 (ix2 r n)) 1 : ℝ) - ((x3 (ix2 ⟨r.val / 64, by omega⟩ n)).toNat : ℝ) : ℝ) : EReal) * x2 (ix2 ⟨r.val / 64, by omega⟩ n) := by
  have e1 : idx_main_v18 (idx_main_v25 (ix2 r n)) = ix2 r n := by
    funext a; apply Fin.ext
    match a with
    | ⟨0, _⟩ => dsimp; omega
    | ⟨1, _⟩ => dsimp; omega
  have e2 : idx_main_v19 (idx_main_v20 (idx_main_v25 (ix2 r n))) = ix2 ⟨r.val / 64, by omega⟩ n := by
    funext a; apply Fin.ext
    match a with
    | ⟨0, _⟩ => dsimp; omega
    | ⟨1, _⟩ => dsimp; omega
  have e3 : idx_main_v22 (idx_main_v23 (idx_main_v25 (ix2 r n))) = ix2 ⟨r.val / 64, by omega⟩ n := e2
  rw [val_main_v25_apply, val_main_v24_apply, val_main_v21_apply, val_main_v18_apply, val_main_v20_apply, val_main_v19_apply,
    val_main_v23_apply, val_main_v22_apply, e1, e2, e3, val_main_v17_apply, val_main_v7_apply, val_main_v5_apply, val_main_v4_apply,
    val_main_v6_apply, val_main_v0_apply, val_main_v3_apply, val_main_c_0_apply]
  show ((((IntOp.shrsi .host ((x1 (ix2 r n)).setWidth 32) 4#32).toInt : ℝ) : EReal) - ((((x3 (ix2 ⟨r.val / 64, by omega⟩ n)).setWidth 32).toInt : ℝ) : EReal)) * _ = _
  rw [high_code, zero_code, ← EReal.coe_sub]
  rfl

/-- The even columns of the activations. -/
theorem even_apply (a : Fin 3) (b : Fin 640) (r : Fin 1792) :
    val_main_v26 (F := Ideal) x0 (ix3 a b r) = x0 (ix3 a b ⟨2 * r.val, by omega⟩) := by
  refine congrArg x0 (funext fun d => Fin.ext ?_)
  match d with
  | ⟨0, _⟩ => show 0 + 1 * a.val = a.val; omega
  | ⟨1, _⟩ => show 0 + 1 * b.val = b.val; omega
  | ⟨2, _⟩ => show 0 + 2 * r.val = 2 * r.val; omega

/-- The odd columns of the activations. -/
theorem odd_apply (a : Fin 3) (b : Fin 640) (r : Fin 1792) :
    val_main_v28 (F := Ideal) x0 (ix3 a b r) = x0 (ix3 a b ⟨2 * r.val + 1, by omega⟩) := by
  refine congrArg x0 (funext fun d => Fin.ext ?_)
  match d with
  | ⟨0, _⟩ => show 0 + 1 * a.val = a.val; omega
  | ⟨1, _⟩ => show 0 + 1 * b.val = b.val; omega
  | ⟨2, _⟩ => show 1 + 2 * r.val = 2 * r.val + 1; omega

/-- The word of the sparse matrix that holds rows `2 r` and `2 r + 1` of column `n`. -/
theorem word_apply (r : Fin 1792) (n : Fin 18944) :
    val_main_v32 (F := Ideal) x4 (ix2 r n)
      = x4 (ix3 ⟨n.val / 128, by omega⟩ r ⟨n.val % 128, Nat.mod_lt _ (by decide)⟩) := by
  rw [val_main_v32_apply, val_main_v31_apply]
  refine congrArg x4 (funext fun a => Fin.ext ?_)
  match a with
  | ⟨0, _⟩ => dsimp; omega
  | ⟨1, _⟩ => dsimp; omega
  | ⟨2, _⟩ => dsimp; omega

/-- Row `k` of the sparse matrix is the half of parity `k % 2` of word `k / 2`. -/
theorem sparse_apply (k : Fin 3584) (n : Fin 18944) :
    val_main_v44 (F := Ideal) x4 (ix2 k n)
      = half (x4 (ix3 ⟨n.val / 128, by omega⟩ ⟨k.val / 2, by omega⟩ ⟨n.val % 128, Nat.mod_lt _ (by decide)⟩)) (k.val % 2) := by
  have e : idx_main_v44 (ix2 k n) = ix3 ⟨k.val / 2, by omega⟩ ⟨k.val % 2, Nat.mod_lt _ (by decide)⟩ n := by
    funext a; apply Fin.ext
    match a with
    | ⟨0, _⟩ => dsimp; omega
    | ⟨1, _⟩ => dsimp; omega
    | ⟨2, _⟩ => dsimp; omega
  rw [val_main_v44_apply, e]
  unfold val_main_v43
  rcases Nat.mod_two_eq_zero_or_one k.val with hk | hk
  · refine (concatenate_pair_apply_left (t := S1792x2x18944) (s₁ := S1792x1x18944) (s₂ := S1792x1x18944) 1 _ _ _ _ rfl
      (ix3 ⟨k.val / 2, by omega⟩ 0 n) (fun b => ?_)).trans ?_
    · match b with
      | ⟨0, _⟩ => rfl
      | ⟨1, _⟩ => exact hk.symm
      | ⟨2, _⟩ => rfl
    · have e' : idx_main_v41 (ix3 ⟨k.val / 2, by omega⟩ 0 n) = ix2 ⟨k.val / 2, by omega⟩ n := eq_ix2 _
      rw [val_main_v41_apply, e', val_main_v36_apply, val_main_v35_apply, val_main_v34_apply, word_apply, val_main_v33_apply, val_main_c_1_apply, hk]
      exact low_half _
  · refine (concatenate_pair_apply_right (t := S1792x2x18944) (s₁ := S1792x1x18944) (s₂ := S1792x1x18944) 1 _ _ _ _ rfl rfl
      (ix3 ⟨k.val / 2, by omega⟩ 0 n) (fun b hb => ?_) ?_).trans ?_
    · match b with
      | ⟨0, _⟩ => rfl
      | ⟨1, _⟩ => exact absurd rfl hb
      | ⟨2, _⟩ => rfl
    · exact hk.symm
    · have e' : idx_main_v42 (ix3 ⟨k.val / 2, by omega⟩ 0 n) = ix2 ⟨k.val / 2, by omega⟩ n := eq_ix2 _
      rw [val_main_v42_apply, e', val_main_v40_apply, val_main_v39_apply, val_main_v38_apply, word_apply, val_main_v37_apply, val_main_c_2_apply, hk]
      exact high_half _

/-- The activation in column `j` of row `i` of the flattened activations. -/
def act (i : Fin 1920) (j : Fin 3584) : EReal := x0 (ix3 ⟨i.val / 640, by omega⟩ ⟨i.val % 640, Nat.mod_lt _ (by decide)⟩ j)

/-- The dequantized code of parity `p` in byte row `r`, column `n`. -/
def base (r : Fin 1792) (n : Fin 18944) (p : Nat) : EReal :=
  (((nib (x1 (ix2 r n)) p : ℝ) - ((x3 (ix2 ⟨r.val / 64, by omega⟩ n)).toNat : ℝ) : ℝ) : EReal) * x2 (ix2 ⟨r.val / 64, by omega⟩ n)

/-- The sparse matrix's number in row `k`, column `n`. -/
def sparse (k : Fin 3584) (n : Fin 18944) : EReal :=
  half (x4 (ix3 ⟨n.val / 128, by omega⟩ ⟨k.val / 2, by omega⟩ ⟨n.val % 128, Nat.mod_lt _ (by decide)⟩)) (k.val % 2)

/-- The reference's result at row `i`, column `n`: the base product over even and odd columns, the sparse product, and a quarter
    of the low-rank product. -/
theorem result_apply (i : Fin 1920) (n : Fin 18944) :
    val_main_v54 (F := Ideal) x0 x1 x2 x3 x4 x5 x6 (ix2 i n)
      = (((∑ r : Fin 1792, act x0 i ⟨2 * r.val, by omega⟩ * base x1 x2 x3 r n 0)
            + ∑ r : Fin 1792, act x0 i ⟨2 * r.val + 1, by omega⟩ * base x1 x2 x3 r n 1)
          + ∑ k : Fin 3584, act x0 i k * sparse x4 k n)
        + ((1 / 4 : ℝ) : EReal) * ∑ b : Fin 64, (∑ j : Fin 3584, act x0 i j * x5 (ix2 j b)) * x6 (ix2 b n) := by
  have e : idx_main_v54 (ix2 i n) = ix3 ⟨i.val / 640, by omega⟩ ⟨i.val % 640, Nat.mod_lt _ (by decide)⟩ n := by
    funext a; apply Fin.ext
    match a with
    | ⟨0, _⟩ => dsimp; omega
    | ⟨1, _⟩ => dsimp; omega
    | ⟨2, _⟩ => dsimp; omega
  rw [val_main_v54_apply, e, val_main_v53_apply, val_main_v52_apply, val_main_v49_apply, val_main_v30_apply, val_main_v51_apply,
    val_main_v27_apply, val_main_v29_apply, val_main_v45_apply, val_main_v48_apply, val_main_v50_apply, val_main_cst_apply]
  refine congrArg₂ (fun p q : EReal => p + q) (congrArg₂ (fun p q : EReal => p + q) (congrArg₂ (fun p q : EReal => p + q) ?_ ?_) ?_)
    (congrArg₂ (fun p q : EReal => p * q) quarter_f32 ?_)
  · refine Finset.sum_congr rfl fun r _ => congrArg₂ (fun p q : EReal => p * q) ?_ ?_
    · exact (congrArg _ (eq_ix3 _)).trans (even_apply x0 _ _ r)
    · exact (congrArg _ (eq_ix2 _)).trans (low_apply x1 x2 x3 r n)
  · refine Finset.sum_congr rfl fun r _ => congrArg₂ (fun p q : EReal => p * q) ?_ ?_
    · exact (congrArg _ (eq_ix3 _)).trans (odd_apply x0 _ _ r)
    · exact (congrArg _ (eq_ix2 _)).trans (high_apply x1 x2 x3 r n)
  · refine Finset.sum_congr rfl fun k _ => congrArg₂ (fun p q : EReal => p * q) ?_ ?_
    · exact congrArg x0 (eq_ix3 _)
    · exact (congrArg _ (eq_ix2 _)).trans (sparse_apply x4 k n)
  · refine Finset.sum_congr rfl fun b _ => congrArg₂ (fun p q : EReal => p * q) ?_ (congrArg x6 (eq_ix2 _))
    rw [val_main_v47_apply, val_main_v46_apply]
    exact Finset.sum_congr rfl fun j _ => congrArg₂ (fun p q : EReal => p * q) (congrArg x0 (eq_ix3 _)) (congrArg x5 (eq_ix2 _))

end Cert.ReferenceIdeal.Read
-- ==== Proof.Equation.lean ====
/- The kernel's sum over 3840 padded rows equals the reference's four sums, when the activations and the scales are real numbers. -/
module

public import proofs.«01_k».proof.Proof.Algebra
public import proofs.«01_k».proof.Proof.Reference
public import proofs.«01_k».proof.Proof.Weights
public import proofs.«01_k».proof.Proof.Lowrank

@[expose] public section

set_option maxRecDepth 65536

noncomputable section

namespace Cert.KernelIdeal.Gen

open Idealize.ShloMosaic
open Cert.ReferenceIdeal.Read (act base sparse)

variable (x0 : Vec Ideal S3x640x3584 .bf16) (x1 : Vec Ideal S1792x18944 .i8) (x2 : Vec Ideal S28x18944 .f32) (x3 : Vec Ideal S28x18944 .i8)
  (x4 : Vec Ideal S148x1792x128 .i32) (x5 : Vec Ideal S3584x64 .bf16) (x6 : Vec Ideal S64x18944 .bf16)

/-- A row of the kernel's weights among the first 3584 is the dequantized code plus the sparse number. -/
theorem weight_dense (k : Fin 3584) (n : Fin 18944) :
    weight (C := 148) rfl x1 x2 x3 x4 x6 k.val n = base x1 x2 x3 ⟨k.val / 2, by omega⟩ n (k.val % 2) + sparse x4 k n := by
  unfold weight
  rw [dif_pos k.isLt]
  have h : (⟨k.val / 128, by omega⟩ : Fin 28) = ⟨k.val / 2 / 64, by omega⟩ := Fin.ext (by show k.val / 128 = k.val / 2 / 64; omega)
  unfold entry base sparse
  rw [h]

/-- Row `3584 + b` of the kernel's weights is row `b` of the second low-rank factor times a quarter. -/
theorem weight_lora (b : Fin 64) (n : Fin 18944) :
    weight (C := 148) rfl x1 x2 x3 x4 x6 (3584 + b.val) n = x6 (ix2 b n) * ((1 / 4 : ℝ) : EReal) := by
  unfold weight
  rw [dif_neg (by omega), dif_pos (by omega), quarter_bf16]
  have h : (⟨3584 + b.val - 3584, by omega⟩ : Fin 64) = b := Fin.ext (by show 3584 + b.val - 3584 = b.val; omega)
  rw [h]

/-- The rows from 3648 on are zero. -/
theorem weight_pad (e : Fin 192) (n : Fin 18944) : weight (C := 148) rfl x1 x2 x3 x4 x6 (3648 + e.val) n = 0 := by
  unfold weight
  rw [dif_neg (by omega), dif_neg (by omega)]

variable (X : Vec Ideal S1920x3584 .bf16) (A : Vec Ideal S64x3584 .bf16)

/-- The kernel's sum at row `i`, column `n` is the reference's. -/
theorem equation (i : Fin 1920) (n : Fin 18944)
    (hX : ∀ j : Fin 3584, X (ix2 i j) = act x0 i j) (hA : ∀ (b : Fin 64) (j : Fin 3584), A (ix2 b j) = x5 (ix2 j b))
    (hx : ∀ y, ∃ a : ℝ, x0 y = (a : EReal)) (hs : ∀ y, ∃ a : ℝ, x2 y = (a : EReal)) :
    ∑ k : Fin 3840, widened X A i k.val * weight (C := 148) rfl x1 x2 x3 x4 x6 k.val n
      = Cert.ReferenceIdeal.Read.val_main_v54 (F := Ideal) x0 x1 x2 x3 x4 x5 x6 (ix2 i n) := by
  have dense (k : Fin 3584) : widened X A i k.val * weight (C := 148) rfl x1 x2 x3 x4 x6 k.val n
      = act x0 i k * base x1 x2 x3 ⟨k.val / 2, by omega⟩ n (k.val % 2) + act x0 i k * sparse x4 k n := by
    obtain ⟨a, ha⟩ := hx (ix3 ⟨i.val / 640, by omega⟩ ⟨i.val % 640, Nat.mod_lt _ (by decide)⟩ k)
    obtain ⟨s, hs⟩ := hs (ix2 ⟨k.val / 2 / 64, by omega⟩ n)
    have hw : widened X A i k.val = (a : EReal) := by
      unfold widened
      rw [dif_pos k.isLt]
      exact (hX k).trans ha
    have hac : act x0 i k = (a : EReal) := ha
    have hb : ∃ b : ℝ, base x1 x2 x3 ⟨k.val / 2, by omega⟩ n (k.val % 2) = (b : EReal) := by
      unfold base
      exact ⟨_, (congrArg _ hs).trans (EReal.coe_mul _ _).symm⟩
    obtain ⟨b, hb⟩ := hb
    rw [weight_dense, hw, hac, hb]
    exact coe_mul_coe_add a b _
  have lora (b : Fin 64) : widened X A i (3584 + b.val) * weight (C := 148) rfl x1 x2 x3 x4 x6 (3584 + b.val) n
      = ((1 / 4 : ℝ) : EReal) * ((∑ j : Fin 3584, act x0 i j * x5 (ix2 j b)) * x6 (ix2 b n)) := by
    have hw : widened X A i (3584 + b.val) = ∑ j : Fin 3584, act x0 i j * x5 (ix2 j b) := by
      unfold widened
      rw [dif_neg (by omega), dif_pos (by omega)]
      refine Finset.sum_congr rfl fun j _ => ?_
      have h : (⟨3584 + b.val - 3584, by omega⟩ : Fin 64) = b := Fin.ext (by show 3584 + b.val - 3584 = b.val; omega)
      rw [h, hX, hA]
    rw [weight_lora, hw, ← mul_assoc, mul_comm]
  have pad (e : Fin 192) : widened X A i (3648 + e.val) * weight (C := 148) rfl x1 x2 x3 x4 x6 (3648 + e.val) n = 0 := by
    rw [weight_pad, mul_zero]
  rw [Cert.ReferenceIdeal.Read.result_apply,
    sum_split (fun k => widened X A i k * weight (C := 148) rfl x1 x2 x3 x4 x6 k n),
    Finset.sum_congr rfl fun b _ => lora b, Finset.sum_congr rfl fun e _ => pad e, Finset.sum_const_zero, add_zero,
    ← coe_mul_sum _ _ (by norm_num), Finset.sum_congr rfl fun k _ => dense k, Finset.sum_add_distrib]
  refine congrArg (fun p : EReal => p + _ + _) ?_
  let f : ℕ → EReal := fun k => if h : k < 3584 then act x0 i ⟨k, h⟩ * base x1 x2 x3 ⟨k / 2, by omega⟩ n (k % 2) else 0
  have hf (k : Fin 3584) : act x0 i k * base x1 x2 x3 ⟨k.val / 2, by omega⟩ n (k.val % 2) = f k.val := by
    dsimp only [f]
    rw [dif_pos k.isLt]
  rw [Finset.sum_congr rfl fun k _ => hf k, sum_parity_rows f]
  refine congrArg₂ (fun p q : EReal => p + q) (Finset.sum_congr rfl fun r _ => ?_) (Finset.sum_congr rfl fun r _ => ?_)
  · refine (dif_pos (by omega)).trans ?_
    have h : (⟨2 * r.val / 2, by omega⟩ : Fin 1792) = r := Fin.ext (by show 2 * r.val / 2 = r.val; omega)
    rw [h, show 2 * r.val % 2 = 0 by omega]
  · refine (dif_pos (by omega)).trans ?_
    have h : (⟨(2 * r.val + 1) / 2, by omega⟩ : Fin 1792) = r := Fin.ext (by show (2 * r.val + 1) / 2 = r.val; omega)
    rw [h, show (2 * r.val + 1) % 2 = 1 by omega]

end Cert.KernelIdeal.Gen
-- ==== Proof.Finite.lean ====
/- What the precondition says: every activation and every scale is a real number. -/
module

public import proofs.«01_k».proof.Proof.Numbers
public import proofs.«01_k».proof.Proof.Gen.Pre_finite
public import Idealize.ShloMosaic.Lib.ReduceAll
public import Idealize.ShloMosaic.Lib.Pipeline.Value

@[expose] public section

noncomputable section

namespace Cert.Pre_finite.Gen

open Idealize.ShloMosaic

/-- The precondition's array of ones makes every activation and every scale a real number. -/
theorem real_of_finite (x0 : FVec Ideal S3x640x3584 .bf16) (x1 : IVec S1792x18944 8) (x2 : FVec Ideal S28x18944 .f32) (x3 : IVec S28x18944 8)
    (x4 : IVec S148x1792x128 32) (x5 : FVec Ideal S3584x64 .bf16) (x6 : FVec Ideal S64x18944 .bf16)
    (h : Cert.Pre_finite.fn (F := Ideal) x0 x1 x2 x3 x4 x5 x6 = fun _ => 1#1) :
    (∀ y, ∃ a : ℝ, x0 y = (a : EReal)) ∧ ∀ y, ∃ a : ℝ, x2 y = (a : EReal) := by
  have h0 := congrFun h (fun a => a.elim0)
  unfold Cert.Pre_finite.fn at h0
  dsimp only at h0
  obtain ⟨hx, hs⟩ := IntOp.andi_eq_one.1 h0
  haveI : Subsingleton S_.Idx := ⟨fun a b => funext fun d => d.elim0⟩
  have t16 : Ideal.ofBits .bf16 0x7F80#16 = ⊤ := by simp [Ideal.ofBits, Ideal.ieee]
  have t32 : Ideal.ofBits .f32 0x7F800000#32 = ⊤ := by simp [Ideal.ofBits, Ideal.ieee]
  constructor
  · intro y
    have e := Host.reduce_andi_all _ _ _ _ _ hx y
    refine Cert.KernelIdeal.Gen.real_of_abs_lt _ (Eq.trans ?_ e)
    rw [← t16]; rfl
  · intro y
    have e := Host.reduce_andi_all _ _ _ _ _ hs y
    refine Cert.KernelIdeal.Gen.real_of_abs_lt _ (Eq.trans ?_ e)
    rw [← t32]; rfl

end Cert.Pre_finite.Gen
-- ==== Proof.lean ====
/- The claims about three calls of the version. `lowrank_t` and `merged_matmul`, in one program, run, leave their arguments as they
   were and every semaphore counter at zero, and on the extended reals they end with the reference's result. `pack_vals` does the same
   on bit patterns, with the words of its own reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.Pack.Value
public import proofs.«01_k».proof.Proof.Gen.PackReference
public import proofs.«01_k».proof.Proof.Gen.PackReference.Run
public import proofs.«01_k».proof.Proof.KernelValue
public import proofs.«01_k».proof.Proof.PackValue
public import proofs.«01_k».proof.Proof.Equation
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two-call program leaves its arguments as they were and every counter at zero, on bit patterns. -/
theorem quiescent_kernel : Cert.quiescent_Kernel (hKernel := Cert.Kernel.Gen.facts) :=
  fun m ρ _ => Cert.Kernel.Gen.frame m ρ

/-- The two-call program leaves its arguments as they were and every counter at zero, on extended reals. -/
theorem quiescent_kernelIdeal : Cert.quiescent_KernelIdeal (hKernelIdeal := Cert.KernelIdeal.Gen.facts) :=
  fun m ρ _ => Cert.KernelIdeal.Gen.frame m ρ

/-- The reference leaves its arguments as they were; it has no counters. -/
theorem quiescent_referenceIdeal : Cert.quiescent_ReferenceIdeal (hReferenceIdeal := Cert.ReferenceIdeal.Gen.facts) :=
  fun m ρ _ => (θ_run _ _ _).mono
    (fun r h => ⟨fun c => (h c).2, Idealize.ShloMosaic.sem_eq_zero_of_no_sems (by decide) r.2⟩)
    (Cert.ReferenceIdeal.Value.run m ρ)

/-- With real activations and scales, the two calls end with the result the reference computes. -/
theorem value (m : (ℓ : Loc Cert.KernelIdeal.nD Cert.KernelIdeal.τ Cert.KernelIdeal.sig) → Buf (Elt Ideal) ℓ)
    (ρ : Dev Cert.KernelIdeal.nD → PrngReg) (hm : Cert.Pre_KernelIdeal_finite (hPre_finite := Cert.Pre_finite.Gen.facts) m)
    (c : Dev Cert.KernelIdeal.nD) :
    (Cert.KernelIdeal.Gen.dat1 (Cert.KernelIdeal.Gen.V2 m ρ) c).arrAt 6 Cert.KernelIdeal.cfg1.N
      = Cert.ReferenceIdeal.Read.val_main_v54 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  obtain ⟨hx, hs⟩ := Cert.Pre_finite.Gen.real_of_finite _ _ _ _ _ _ _ (hm c)
  refine (Cert.KernelIdeal.Gen.kernel_value m ρ c).trans (funext fun y => ?_)
  obtain ⟨i, n, rfl⟩ : ∃ (i : Fin 1920) (n : Fin 18944), y = ix2 i n := ⟨y 0, y 1, eq_ix2 y⟩
  exact Cert.KernelIdeal.Gen.equation _ _ _ _ _ _ _ _ _ i n (fun j => Cert.KernelIdeal.Gen.entry_x m ρ c i j)
    (fun b j => Cert.KernelIdeal.Gen.entry_a m ρ c b j) hx hs

/-- The kernel and the reference, started on the same arguments, end with the same result, and leave the arguments as they were. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (Cert.KernelIdeal.Gen.dat1 (Cert.KernelIdeal.Gen.V2 m ρ) c).arrAt 6 Cert.KernelIdeal.cfg1.N,
    Cert.KernelIdeal.Gen.run_result m ρ, ?_⟩
  refine (θ_run _ _ _).mono (fun r h c => ⟨(h c).1.trans ?_, (h c).2⟩) (Cert.ReferenceIdeal.Value.run m' ρ')
  refine Eq.trans ?_ (value m ρ hpre c).symm
  obtain ⟨h0, h1, h2, h3, h4, h5, h6⟩ := hagree c
  rw [← h0, ← h1, ← h2, ← h3, ← h4, ← h5, ← h6]
  exact Cert.ReferenceIdeal.Read.val_main_v54_eq _ _ _ _ _ _ _

/-- The packing call leaves its argument as it was and every counter at zero. -/
theorem quiescent_pack : Cert.quiescent_Pack (hPack := Cert.Pack.Gen.facts) :=
  fun m ρ _ => Cert.Pack.Gen.frame m ρ

/-- The packing reference leaves its argument as it was; it has no counters. -/
theorem quiescent_packReference : Cert.quiescent_PackReference (hPackReference := Cert.PackReference.Gen.facts) :=
  fun m ρ _ => (θ_run _ _ _).mono
    (fun r h => ⟨fun c => (h c).2, Idealize.ShloMosaic.sem_eq_zero_of_no_sems (by decide) r.2⟩)
    (Cert.PackReference.Value.run m ρ)

/-- The packing call and its reference, started on the same argument, end with the same words. -/
theorem bitexact_pack : Cert.bitexact_Pack_PackReference (hPack := Cert.Pack.Gen.facts)
    (hPackReference := Cert.PackReference.Gen.facts) := by
  intro m ρ m' ρ' _ hagree
  refine ⟨fun c => (Cert.Pack.Gen.dats m 0 c).arrAt 1 Cert.Pack.cfg0.N, Cert.Pack.Value.run_blocks m ρ, ?_⟩
  refine (θ_run _ _ _).mono (fun r h c => ⟨(h c).1.trans ?_, (h c).2⟩) (Cert.PackReference.Value.run m' ρ')
  refine Eq.trans ?_ (Cert.Pack.Gen.array_eq m c).symm
  rw [hagree c]
  exact funext fun y => Cert.PackReference.Value.result_apply _ _ _ _ _ y

theorem claim : Cert.Claim :=
  ⟨Cert.Kernel.Gen.facts, Cert.KernelIdeal.Gen.facts, Cert.ReferenceIdeal.Gen.facts, Cert.Pack.Gen.facts, Cert.PackReference.Gen.facts,
    Cert.Pre_finite.Gen.facts, quiescent_kernel, quiescent_kernelIdeal, fun m ρ _ => Cert.KernelIdeal.Gen.frame m ρ,
    quiescent_referenceIdeal, fun m ρ _ => quiescent_referenceIdeal m ρ trivial, quiescent_pack, quiescent_packReference, trivial,
    algebraic, bitexact_pack⟩

end Cert.Proof

end
